-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S128x32768 : Shape := ⟨2, ![128, 32768]⟩
abbrev S128x10x32768 : Shape := ⟨3, ![128, 10, 32768]⟩
abbrev S_ : Shape := ⟨0, ![]⟩
abbrev S128x1x32768 : Shape := ⟨3, ![128, 1, 32768]⟩
abbrev S128x10 : Shape := ⟨2, ![128, 10]⟩

class Facts : Prop where
  bcast_S_S128x10x32768 : S_.BroadcastsInDim S128x10x32768 (![] : Fin 0 → Fin S128x10x32768.rank)
  bcast_S_S128x32768 : S_.BroadcastsInDim S128x32768 (![] : Fin 0 → Fin S128x32768.rank)
  bcast_S128x32768_S128x1x32768_0_2 : S128x32768.BroadcastsInDim S128x1x32768 (![0, 2] : Fin 2 → Fin S128x1x32768.rank)
  bcast_S128x1x32768_S128x10x32768_0_1_2 : S128x1x32768.BroadcastsInDim S128x10x32768 (![0, 1, 2] : Fin 3 → Fin S128x10x32768.rank)
  reducesTo_S128x32768_S_d0_1 : S128x32768.ReducesTo [0, 1] S_
  h_S_ : 0 < S_.numel
  reducesTo_S128x10x32768_S_d0_1_2 : S128x10x32768.ReducesTo [0, 1, 2] S_
  reducesTo_S128x10x32768_S128x10_d2 : S128x10x32768.ReducesTo [2] S128x10
  reducesTo_S128x10_S_d0_1 : S128x10.ReducesTo [0, 1] S_

variable [Facts]

def fn_part1 {F : FTy → Type} [FloatOps F] (main_v13 : IVec S_ 1) (main_v15 : IVec S_ 1) : IVec S_ 1 :=
  let main_v16 : IVec S_ 1 := andi main_v13 main_v15
  main_v16

def fn {F : FTy → Type} [FloatOps F] (main_arg0 : FVec F S128x32768 .f32) (main_arg1 : FVec F S128x10x32768 .f32) : IVec S_ 1 :=
  let main_cst : FVec F S_ .f32 := constant S_ .f32 0x00000000#32
  let main_v0 : FVec F S128x10x32768 .f32 := broadcastInDim S128x10x32768 ![] bcast_S_S128x10x32768 main_cst
  let main_v1 : IVec S128x10x32768 1 := cmpf .ogt main_arg1 main_v0
  let main_cst_0 : FVec F S_ .f32 := constant S_ .f32 0xFF800000#32
  let main_v2 : FVec F S128x32768 .f32 := broadcastInDim S128x32768 ![] bcast_S_S128x32768 main_cst_0
  let main_v3 : IVec S128x32768 1 := cmpf .ogt main_arg0 main_v2
  let main_v4 : IVec S128x1x32768 1 := broadcastInDim S128x1x32768 ![0, 2] bcast_S128x32768_S128x1x32768_0_2 main_v3
  let main_v5 : IVec S128x10x32768 1 := broadcastInDim S128x10x32768 ![0, 1, 2] bcast_S128x1x32768_S128x10x32768_0_1_2 main_v4
  let main_v6 : IVec S128x10x32768 1 := andi main_v1 main_v5
  let main_cst_1 : FVec F S_ .f32 := constant S_ .f32 0x42200000#32
  let main_v7 : FVec F S128x32768 .f32 := broadcastInDim S128x32768 ![] bcast_S_S128x32768 main_cst_1
  let main_v8 : IVec S128x32768 1 := cmpf .ole main_arg0 main_v7
  let main_c : IVec S_ 1 := constantI S_ 1 1#1
  let main_v9 : IVec S_ 1 := (fun x v => Host.reduce IntOp.andi x v reducesTo_S128x32768_S_d0_1 h_S_) main_v8 main_c
  let main_cst_2 : FVec F S_ .f32 := constant S_ .f32 0x3F800000#32
  let main_v10 : FVec F S128x10x32768 .f32 := broadcastInDim S128x10x32768 ![] bcast_S_S128x10x32768 main_cst_2
  let main_v11 : IVec S128x10x32768 1 := cmpf .olt main_arg1 main_v10
  let main_c_3 : IVec S_ 1 := constantI S_ 1 1#1
  let main_v12 : IVec S_ 1 := (fun x v => Host.reduce IntOp.andi x v reducesTo_S128x10x32768_S_d0_1_2 h_S_) main_v11 main_c_3
  let main_v13 : IVec S_ 1 := andi main_v9 main_v12
  let main_c_4 : IVec S_ 1 := constantI S_ 1 0#1
  let main_v14 : IVec S128x10 1 := (fun x v => Host.reduce IntOp.ori x v reducesTo_S128x10x32768_S128x10_d2 h_S_) main_v6 main_c_4
  let main_c_5 : IVec S_ 1 := constantI S_ 1 1#1
  let main_v15 : IVec S_ 1 := (fun x v => Host.reduce IntOp.andi x v reducesTo_S128x10_S_d0_1 h_S_) main_v14 main_c_5
  fn_part1 (F := F) main_v13 main_v15
-- ==== Kernel.lean ====
abbrev S128x32768 : Shape := ⟨2, ![128, 32768]⟩
abbrev S128x10x32768 : Shape := ⟨3, ![128, 10, 32768]⟩
abbrev S16x8x32768 : Shape := ⟨3, ![16, 8, 32768]⟩
abbrev S1x8x32768 : Shape := ⟨3, ![1, 8, 32768]⟩
abbrev S8x10x32768 : Shape := ⟨3, ![8, 10, 32768]⟩
abbrev S8x32768 : Shape := ⟨2, ![8, 32768]⟩
abbrev S8x10x1 : Shape := ⟨3, ![8, 10, 1]⟩
abbrev S8x10x256 : Shape := ⟨3, ![8, 10, 256]⟩
abbrev S8x256 : Shape := ⟨2, ![8, 256]⟩
abbrev S8x1x256 : Shape := ⟨3, ![8, 1, 256]⟩
abbrev S8x10 : Shape := ⟨2, ![8, 10]⟩
abbrev S1x8x256 : Shape := ⟨3, ![1, 8, 256]⟩
abbrev S8x1 : Shape := ⟨2, ![8, 1]⟩
abbrev S8 : Shape := ⟨1, ![8]⟩

abbrev nBuf : Space → Nat
  | .hbm => 7
  | .vmem => 10
  | .smem => 0
  | _ => 0

abbrev bufTy : (tb : Table) → Fin (tcTables nBuf tb) → BufTy
  | .hbm, ⟨0, _⟩ => ⟨S128x32768, .f32⟩
  | .hbm, ⟨1, _⟩ => ⟨S128x10x32768, .f32⟩
  | .hbm, ⟨2, _⟩ => ⟨S16x8x32768, .f32⟩
  | .hbm, ⟨3, _⟩ => ⟨S16x8x32768, .f32⟩
  | .hbm, ⟨4, _⟩ => ⟨S16x8x32768, .f32⟩
  | .hbm, ⟨5, _⟩ => ⟨S128x32768, .f32⟩
  | .hbm, ⟨6, _⟩ => ⟨S128x32768, .f32⟩
  | .local _ .vmem, ⟨0, _⟩ => ⟨S1x8x32768, .f32⟩
  | .local _ .vmem, ⟨1, _⟩ => ⟨S1x8x32768, .f32⟩
  | .local _ .vmem, ⟨2, _⟩ => ⟨S8x10x32768, .f32⟩
  | .local _ .vmem, ⟨3, _⟩ => ⟨S8x10x32768, .f32⟩
  | .local _ .vmem, ⟨4, _⟩ => ⟨S1x8x32768, .f32⟩
  | .local _ .vmem, ⟨5, _⟩ => ⟨S1x8x32768, .f32⟩
  | .local _ .vmem, ⟨6, _⟩ => ⟨S1x8x32768, .f32⟩
  | .local _ .vmem, ⟨7, _⟩ => ⟨S1x8x32768, .f32⟩
  | .local _ .vmem, ⟨8, _⟩ => ⟨S1x8x32768, .f32⟩
  | .local _ .vmem, ⟨9, _⟩ => ⟨S1x8x32768, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x10x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S128x32768 : Shape := ⟨2, ![128, 32768]⟩
abbrev S128x10x32768 : Shape := ⟨3, ![128, 10, 32768]⟩
abbrev S128x1x32768 : Shape := ⟨3, ![128, 1, 32768]⟩
abbrev S_ : Shape := ⟨0, ![]⟩
abbrev S128x10 : Shape := ⟨2, ![128, 10]⟩
abbrev S128x10x1 : Shape := ⟨3, ![128, 10, 1]⟩
abbrev S128x1 : Shape := ⟨2, ![128, 1]⟩
abbrev S128 : Shape := ⟨1, ![128]⟩

abbrev nBuf : Space → Nat
  | .hbm => 36
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x10x32768, .f32⟩
  | .hbm, ⟨2, _⟩ => ⟨S128x1x32768, .f32⟩
  | .hbm, ⟨3, _⟩ => ⟨S128x10x32768, .f32⟩
  | .hbm, ⟨4, _⟩ => ⟨S128x10x32768, .f32⟩
  | .hbm, ⟨5, _⟩ => ⟨S128x10x32768, .f32⟩
  | .hbm, ⟨6, _⟩ => ⟨S128x10x32768, .f32⟩
  | .hbm, ⟨7, _⟩ => ⟨S128x10x32768, .f32⟩
  | .hbm, ⟨8, _⟩ => ⟨S128x10x32768, .f32⟩
  | .hbm, ⟨9, _⟩ => ⟨S_, .f32⟩
  | .hbm, ⟨10, _⟩ => ⟨S128x10x32768, .f32⟩
  | .hbm, ⟨11, _⟩ => ⟨S128x10x32768, .f32⟩
  | .hbm, ⟨12, _⟩ => ⟨S_, .f32⟩
  | .hbm, ⟨13, _⟩ => ⟨S128x10, .f32⟩
  | .hbm, ⟨14, _⟩ => ⟨S_, .f32⟩
  | .hbm, ⟨15, _⟩ => ⟨S128x10, .f32⟩
  | .hbm, ⟨16, _⟩ => ⟨S128x10, .f32⟩
  | .hbm, ⟨17, _⟩ => ⟨S128x10x1, .f32⟩
  | .hbm, ⟨18, _⟩ => ⟨S128x10x32768, .f32⟩
  | .hbm, ⟨19, _⟩ => ⟨S128x10x32768, .f32⟩
  | .hbm, ⟨20, _⟩ => ⟨S128x10x32768, .f32⟩
  | .hbm, ⟨21, _⟩ => ⟨S_, .f32⟩
  | .hbm, ⟨22, _⟩ => ⟨S128x10, .f32⟩
  | .hbm, ⟨23, _⟩ => ⟨S128x10x1, .f32⟩
  | .hbm, ⟨24, _⟩ => ⟨S128x10x32768, .f32⟩
  | .hbm, ⟨25, _⟩ => ⟨S128x10x32768, .f32⟩
  | .hbm, ⟨26, _⟩ => ⟨S_, .f32⟩
  | .hbm, ⟨27, _⟩ => ⟨S128x32768, .f32⟩
  | .hbm, ⟨28, _⟩ => ⟨S128x10, .f32⟩
  | .hbm, ⟨29, _⟩ => ⟨S128x10, .i32⟩
  | .hbm, ⟨30, _⟩ => ⟨S128x1, .f32⟩
  | .hbm, ⟨31, _⟩ => ⟨S128, .f32⟩
  | .hbm, ⟨32, _⟩ => ⟨S128x1, .f32⟩
  | .hbm, ⟨33, _⟩ => ⟨S128x32768, .f32⟩
  | .hbm, ⟨34, _⟩ => ⟨S128x32768, .i1⟩
  | .hbm, ⟨35, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_values : Ref sig .tc := ⟨.hbm, 28, rfl⟩
abbrev main_indices : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Chunks.lean ====
/- What one step of the sampling call writes, chunk by chunk: the printed payloads gathered into one
   formula per chunk of 256 columns. -/
module

public import proofs.«01_k».proof.Proof.Gen.KernelIdeal.Frame

@[expose] public section

set_option maxRecDepth 65536

noncomputable section

namespace Cert.Draw

open Idealize.ShloMosaic Idealize.SL.Sem Cert.KernelIdeal Cert.KernelIdeal.Gen

variable {F : FTy → Type} [FloatOps F]

/-- The 256 columns from `256 * k` on lie inside the uniforms' block. -/
theorem uni_inb (k : Fin 128) : ∀ a, (![0, 0, 256 * k.val] : Fin 3 → Nat) a + S8x10x256.size a ≤ S8x10x32768.size a := by
  have := k.isLt
  intro a
  match a with
  | 0 => show 0 + 8 ≤ 8; omega
  | 1 => show 0 + 10 ≤ 10; omega
  | 2 => show 256 * k.val + 256 ≤ 32768; omega

/-- The 256 columns from `256 * k` on lie inside the result's block. -/
theorem res_inb (k : Fin 128) : ∀ a, (![0, 0, 256 * k.val] : Fin 3 → Nat) a + S1x8x256.size a ≤ S1x8x32768.size a := by
  have := k.isLt
  intro a
  match a with
  | 0 => show 0 + 1 ≤ 1; omega
  | 1 => show 0 + 8 ≤ 8; omega
  | 2 => show 256 * k.val + 256 ≤ 32768; omega

/-- The 256 columns from `256 * k` on can be cut out of the exponentials. -/
theorem e_slices (k : Fin 128) : S8x32768.Slices ![0, 256 * k.val] S8x256 := by
  have := k.isLt
  refine ⟨rfl, ?_⟩
  intro a
  match a with
  | 0 => show 0 + 8 ≤ 8; omega
  | 1 => show 256 * k.val + 256 ≤ 32768; omega

/-- Chunk `k` of the uniforms. -/
def uni (x1 : Vec F S8x10x32768 .f32) (k : Fin 128) : Vec F S8x10x256 .f32 :=
  View.ld x1 (Rect.unit (s := S8x10x32768) ![0, 0, 256 * k.val] S8x10x256.size (uni_inb k))

/-- One over the square of the logarithm. -/
def recip (u : Vec F S8x10x256 .f32) : FVec F S8x10x256 .f32 :=
  divf (broadcast S8x10x256 (Scalar.ofBits .f32 0x3F800000#32)) (mulf (log u) (log u))

/-- Chunk `k` of the exponentials. -/
def cut (e : FVec F S8x32768 .f32) (k : Fin 128) : FVec F S8x256 .f32 :=
  extractStridedSlice S8x256 ![0, 256 * k.val] e (e_slices k)

/-- Chunk `k`'s part of the normalizing sum. -/
def chunkSum (e : FVec F S8x32768 .f32) (x1 : Vec F S8x10x32768 .f32) (k : Fin 128) : FVec F S8x10x1 .f32 :=
  shapeCast S8x10x1
    (multiReduction .add [2] S8x10
      (mulf (broadcastTo S8x10x256 (shapeCast S8x1x256 (cut e k) shapeCasts_S8x256_S8x1x256) broadcasts_S8x1x256_S8x10x256)
        (recip (uni x1 k)))
      0x00000000#32 reduces_S8x10x256_S8x10 (.inl rfl) rfl)
    shapeCasts_S8x10_S8x10x1

/-- The normalizing sum over the first `n` chunks. -/
def acc (e : FVec F S8x32768 .f32) (x1 : Vec F S8x10x32768 .f32) : (n : Nat) → n ≤ 128 → FVec F S8x10x1 .f32
  | 0, _ => broadcast S8x10x1 (Scalar.ofBits .f32 0x00000000#32)
  | n + 1, h => addf (acc e x1 n (Nat.le_of_succ_le h)) (chunkSum e x1 ⟨n, h⟩)

/-- One over the whole normalizing sum. -/
def scale (e : FVec F S8x32768 .f32) (x1 : Vec F S8x10x32768 .f32) : FVec F S8x10x1 .f32 :=
  divf (broadcast S8x10x1 (Scalar.ofBits .f32 0x3F800000#32)) (acc e x1 128 (Nat.le_refl _))

/-- Chunk `k` of the result: the exponentials times the greatest scaled reciprocal over the ten draws. -/
def piece (e : FVec F S8x32768 .f32) (rs : FVec F S8x10x1 .f32) (x1 : Vec F S8x10x32768 .f32) (k : Fin 128) :
    FVec F S1x8x256 .f32 :=
  shapeCast S1x8x256
    (mulf (cut e k)
      (multiReduction .maximumf [1] S8x256
        (mulf (recip (uni x1 k)) (broadcastTo S8x10x256 rs broadcasts_S8x10x1_S8x10x256))
        0xFF800000#32 reduces_S8x10x256_S8x256 (.inl rfl) rfl))
    shapeCasts_S8x256_S1x8x256

/-- The printed reciprocal of the normalizing sum is the sum over all 128 chunks, inverted. -/
theorem pay250_eq (x0 : Vec F S1x8x32768 .f32) (x1 : Vec F S8x10x32768 .f32) :
    k0_pay250 x0 x1 = scale (k0_pay248 x0 x1) x1 := by
  rfl

/-- The printed stores are the 128 pieces, last first. -/
theorem out_eq (x0 : Vec F S1x8x32768 .f32) (x1 : Vec F S8x10x32768 .f32) :
    out0_2 x0 x1 = View.canon (List.ofFn fun j : Fin 128 =>
      (⟨Rect.unit (s := S1x8x32768) ![0, 0, 256 * j.rev.val] S1x8x256.size (res_inb j.rev),
        piece (k0_pay248 x0 x1) (k0_pay250 x0 x1) x1 j.rev⟩ : View.Piece (Elt F) S1x8x32768 .f32)) := by
  unfold out0_2
  rfl

end Cert.Draw

end
-- ==== Proof.DrawMath.lean ====
/- The mathematics of the samples over the extended reals: a softmax of perturbed logits, written without its exponent's
   shift and with the perturbation's exponential as a reciprocal square. -/
module

public import Idealize.ShloMosaic.PureOps.Ideal
public import Idealize.ShloMosaic.PureOps.Ideal.Laws

@[expose] public section

noncomputable section

namespace Cert.Draw

open Idealize.ShloMosaic

/-- The pattern of 40. -/
theorem bits_forty : Ideal.ofBits .f32 0x42200000#32 = ((40 : ℝ) : EReal) := by
  simp [Ideal.ofBits, Ideal.ieee, -EReal.coe_mul]; norm_num

/-- The pattern of 2. -/
theorem bits_two : Ideal.ofBits .f32 0x40000000#32 = ((2 : ℝ) : EReal) := by
  simp [Ideal.ofBits, Ideal.ieee, -EReal.coe_mul]; norm_num

/-- The pattern of one half. -/
theorem bits_half : Ideal.ofBits .f32 0x3F000000#32 = ((1 / 2 : ℝ) : EReal) := by
  simp [Ideal.ofBits, Ideal.ieee, -EReal.coe_mul]; norm_num

/-- The pattern of 1. -/
theorem bits_one : Ideal.ofBits .f32 0x3F800000#32 = ((1 : ℝ) : EReal) := by
  simp [Ideal.ofBits, Ideal.ieee, -EReal.coe_mul, -EReal.coe_one]; norm_num

/-- The pattern of 0. -/
theorem bits_zero : Ideal.ofBits .f32 0x00000000#32 = (0 : EReal) := by
  simp [Ideal.ofBits, Ideal.ieee]

/-- The pattern of negative infinity. -/
theorem bits_bot : Ideal.ofBits .f32 0xFF800000#32 = (⊥ : EReal) := by
  simp [Ideal.ofBits, Ideal.ieee]

/-- The kernel's exponential of a capped logit. -/
def expo (l : EReal) : EReal := Ideal.exp (min l ((40 : ℝ) : EReal) * ((2 : ℝ) : EReal))

/-- The kernel's factor of a uniform. -/
def weight (u : EReal) : EReal := Ideal.div ((1 : ℝ) : EReal) (Ideal.log u * Ideal.log u)

/-- The reference's perturbed logit over the temperature. -/
def score (l u : EReal) : EReal := Ideal.div (-(Ideal.log (-(Ideal.log u))) + l) ((1 / 2 : ℝ) : EReal)

/-- A division of reals by a nonzero real is the real division. -/
theorem div_coe (x y : ℝ) (hy : y ≠ 0) : Ideal.div (x : EReal) (y : EReal) = ((x / y : ℝ) : EReal) := by
  have h : (y : EReal) ≠ 0 := by exact_mod_cast hy
  rw [Ideal.div, if_neg h, ← EReal.coe_inv, ← EReal.coe_mul, div_eq_mul_inv]

/-- For a logit at most 40 and a uniform below 1, the exponential of the score is the product of the kernel's two factors,
    all three real and not negative, positive when the uniform is and the logit is not negative infinity. -/
theorem factor (l u : EReal) (hl : l ≤ ((40 : ℝ) : EReal)) (hu : u < ((1 : ℝ) : EReal)) :
    ∃ e q : ℝ, 0 ≤ e ∧ 0 ≤ q ∧ expo l = e ∧ weight u = q ∧ score l u ≠ ⊤ ∧ Ideal.exp (score l u) = ((e * q : ℝ) : EReal)
      ∧ (0 < u → ⊥ < l → 0 < e * q ∧ score l u ≠ ⊥) := by
  have hhalf : (((1 / 2 : ℝ)) : EReal) ≠ 0 := by norm_cast; norm_num
  have hinv : (((1 / 2 : ℝ)) : EReal)⁻¹ = ((2 : ℝ) : EReal) := by
    rw [← EReal.coe_inv]; norm_num
  have hsc : score l u = (-(Ideal.log (-(Ideal.log u))) + l) * ((2 : ℝ) : EReal) := by
    rw [score, Ideal.div, if_neg hhalf, hinv]
  have he : ∃ e : ℝ, 0 ≤ e ∧ expo l = e := by
    rw [expo, min_eq_left hl]
    induction l with
    | bot => exact ⟨0, le_rfl, by rw [EReal.bot_mul_coe_of_pos (by norm_num)]; rfl⟩
    | top => exact absurd hl (by simp)
    | coe r => exact ⟨Real.exp (r * 2), (Real.exp_pos _).le, by rw [← EReal.coe_mul]; rfl⟩
  have hlog : Ideal.log u = ⊥ ∨ ∃ r : ℝ, u = r ∧ 0 < r ∧ r < 1 ∧ Ideal.log u = (Real.log r : EReal) := by
    induction u with
    | bot => exact .inl rfl
    | top => exact absurd hu (by simp)
    | coe r =>
      by_cases h : r ≤ 0
      · left; show (if r ≤ 0 then (⊥ : EReal) else _) = ⊥; rw [if_pos h]
      · right
        refine ⟨r, rfl, not_le.1 h, by exact_mod_cast hu, ?_⟩
        show (if r ≤ 0 then (⊥ : EReal) else _) = _
        rw [if_neg h]
  obtain ⟨e, he0, hel⟩ := he
  rcases hlog with hb | ⟨r, hur, hr0, hr1, hlr⟩
  · have hs : score l u = ⊥ := by
      rw [hsc, hb, EReal.neg_bot]
      show (-(⊤ : EReal) + l) * _ = ⊥
      rw [EReal.neg_top, EReal.bot_add, EReal.bot_mul_coe_of_pos (by norm_num)]
    have hw : weight u = ((0 : ℝ) : EReal) := by
      rw [weight, hb, EReal.bot_mul_bot, Ideal.div, if_neg (by simp), EReal.inv_top, mul_zero]; rfl
    refine ⟨e, 0, he0, le_rfl, hel, hw, by rw [hs]; simp, by rw [hs, mul_zero]; rfl, ?_⟩
    intro hu0 _
    exfalso
    induction u with
    | bot => simp at hu0
    | top => simp at hu
    | coe r =>
      have h : ¬ r ≤ 0 := not_le.2 (by exact_mod_cast hu0)
      have : Ideal.log (r : EReal) = (Real.log r : EReal) := by
        show (if r ≤ 0 then (⊥ : EReal) else _) = _
        rw [if_neg h]
      rw [this] at hb
      exact EReal.coe_ne_bot _ hb
  · have hneg : Real.log r < 0 := Real.log_neg hr0 hr1
    have hne : Real.log r * Real.log r ≠ 0 := mul_ne_zero hneg.ne hneg.ne
    have hpos : 0 < 1 / (Real.log r * Real.log r) := by
      have := mul_pos_of_neg_of_neg hneg hneg
      positivity
    have hw : weight u = ((1 / (Real.log r * Real.log r) : ℝ) : EReal) := by
      rw [weight, hlr, ← EReal.coe_mul, div_coe _ _ hne]
    have hg : Ideal.log (-(Ideal.log u)) = ((Real.log (-Real.log r) : ℝ) : EReal) := by
      rw [hlr, ← EReal.coe_neg]
      show (if -Real.log r ≤ 0 then (⊥ : EReal) else _) = _
      rw [if_neg (by linarith)]
    rw [hg, ← EReal.coe_neg] at hsc
    refine ⟨e, _, he0, hpos.le, hel, hw, ?_⟩
    induction l with
    | top => exact absurd hl (by simp)
    | bot =>
      have hs : score ⊥ u = ⊥ := by
        rw [hsc, EReal.add_bot, EReal.bot_mul_coe_of_pos (by norm_num)]
      have h0 : e = 0 := by
        have : expo ⊥ = 0 := by
          rw [expo, min_eq_left hl, EReal.bot_mul_coe_of_pos (by norm_num)]; rfl
        rw [this] at hel
        exact_mod_cast hel.symm
      refine ⟨by rw [hs]; simp, by rw [hs, h0, zero_mul]; rfl, fun _ h => absurd h (lt_irrefl _)⟩
    | coe x =>
      have hs : score x u = (((-Real.log (-Real.log r) + x) * 2 : ℝ) : EReal) := by
        rw [hsc, ← EReal.coe_add, ← EReal.coe_mul]
      have hx : e = Real.exp (x * 2) := by
        have : expo x = ((Real.exp (x * 2) : ℝ) : EReal) := by
          rw [expo, min_eq_left hl, ← EReal.coe_mul]; rfl
        rw [this] at hel
        exact_mod_cast hel.symm
      refine ⟨by rw [hs]; exact EReal.coe_ne_top _, ?_, fun _ _ => ⟨by rw [hx]; exact mul_pos (Real.exp_pos _) hpos, by rw [hs]; exact EReal.coe_ne_bot _⟩⟩
      rw [hs]
      show ((Real.exp _ : ℝ) : EReal) = _
      congr 1
      have h2 : Real.exp (-Real.log (-Real.log r) * 2) = 1 / (Real.log r * Real.log r) := by
        rw [neg_mul, Real.exp_neg, mul_two, Real.exp_add, Real.exp_log (by linarith)]
        rw [one_div, neg_mul_neg]
      rw [add_mul, Real.exp_add, h2, hx, mul_comm]

/-- Shifting an exponent by a real divides its exponential. -/
theorem exp_sub (x : EReal) (a m : ℝ) (hx : x ≠ ⊤) (ha : Ideal.exp x = a) :
    Ideal.exp (x - (m : EReal)) = ((a * Real.exp (-m) : ℝ) : EReal) := by
  induction x with
  | top => exact absurd rfl hx
  | bot =>
    have : a = 0 := by
      have h : (0 : EReal) = (a : EReal) := ha
      exact_mod_cast h.symm
    rw [EReal.bot_sub, this, zero_mul]; rfl
  | coe r =>
    have h : (Real.exp r : EReal) = (a : EReal) := ha
    rw [← EReal.coe_sub]
    show ((Real.exp (r - m) : ℝ) : EReal) = _
    rw [sub_eq_add_neg, Real.exp_add, EReal.coe_eq_coe_iff.1 h]

/-- A sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many extended reals, one of which is an upper bound, is that one. -/
theorem fold_max_eq {ι : Type} [Fintype ι] (f : ι → EReal) (i : ι) (h : ∀ j, f j ≤ f i) :
    (Finset.univ : Finset ι).fold max ⊥ f = f i :=
  le_antisymm ((Finset.fold_max_le _).2 ⟨bot_le, fun j _ => h j⟩)
    ((Finset.le_fold_max _).2 (.inr ⟨i, Finset.mem_univ i, le_rfl⟩))

/-- The samples agree: the kernel's product of the exponential and the greatest scaled factor is the greatest of the
    reference's softmax values. -/
theorem draw_eq {N K : Nat} [NeZero K] (l : Fin N → EReal) (u : Fin K → Fin N → EReal) (d : Fin N)
    (hl : ∀ d, l d ≤ ((40 : ℝ) : EReal)) (hu : ∀ k d, u k d < ((1 : ℝ) : EReal))
    (hlive : ∀ k, ∃ d, 0 < u k d ∧ ⊥ < l d) (S M : Fin K → EReal)
    (hS : ∀ k, S k = ∑ d, expo (l d) * weight (u k d))
    (hM : ∀ k, M k = (Finset.univ : Finset (Fin N)).fold max ⊥ fun d => score (l d) (u k d)) :
    expo (l d) * (Finset.univ : Finset (Fin K)).fold max ⊥ (fun k => weight (u k d) * Ideal.div ((1 : ℝ) : EReal) (S k))
      = (Finset.univ : Finset (Fin K)).fold max ⊥ (fun k =>
          Ideal.div (Ideal.exp (score (l d) (u k d) - M k)) (0 + ∑ d', Ideal.exp (score (l d') (u k d') - M k))) := by
  have hf := fun k d => factor (l d) (u k d) (hl d) (hu k d)
  choose e' q he' hq hee' hqq htop hexp hpos using hf
  set e : Fin N → ℝ := e' 0 with hedef
  have hee : ∀ d, expo (l d) = e d := fun d => hee' 0 d
  have hek : ∀ k d, e' k d = e d := fun k d => by
    have := (hee' k d).symm.trans (hee d)
    exact_mod_cast this
  have he : ∀ d, 0 ≤ e d := fun d => he' 0 d
  simp only [hek] at hexp hpos
  set T : Fin K → ℝ := fun k => ∑ d, e d * q k d with hT
  have hTpos : ∀ k, 0 < T k := fun k => by
    obtain ⟨d, hd, hd'⟩ := hlive k
    exact Finset.sum_pos' (fun d _ => mul_nonneg (he d) (hq k d)) ⟨d, Finset.mem_univ d, (hpos k d hd hd').1⟩
  have hST : ∀ k, S k = (T k : EReal) := fun k => by
    rw [hS, hT, ← sum_coe]
    exact Finset.sum_congr rfl fun d _ => by rw [hee, hqq, EReal.coe_mul]
  have hMr : ∀ k, ∃ m : ℝ, M k = m := fun k => by
    obtain ⟨d, hd, hd'⟩ := hlive k
    have hne : (Finset.univ : Finset (Fin N)).Nonempty := ⟨d, Finset.mem_univ d⟩
    obtain ⟨i, -, hi⟩ := Finset.exists_max_image Finset.univ (fun d => score (l d) (u k d)) hne
    have hMi : M k = score (l i) (u k i) := by
      rw [hM, fold_max_eq _ i fun j => hi j (Finset.mem_univ j)]
    have hb : M k ≠ ⊥ := by
      intro hbot
      have := hi d (Finset.mem_univ d)
      rw [← hMi, hbot] at this
      exact (hpos k d hd hd').2 (le_bot_iff.1 this)
    have ht : M k ≠ ⊤ := by rw [hMi]; exact htop k i
    exact ⟨(M k).toReal, (EReal.coe_toReal ht hb).symm⟩
  choose m hm using hMr
  have hR : ∀ k, Ideal.div (Ideal.exp (score (l d) (u k d) - M k)) (0 + ∑ d', Ideal.exp (score (l d') (u k d') - M k))
      = ((e d * (q k d * (1 / T k)) : ℝ) : EReal) := fun k => by
    have hs : ∀ d, Ideal.exp (score (l d) (u k d) - M k) = ((e d * q k d * Real.exp (-m k) : ℝ) : EReal) := fun d => by
      rw [hm k]; exact exp_sub _ _ _ (htop k d) (hexp k d)
    simp only [hs]
    rw [zero_add, sum_coe, ← Finset.sum_mul]
    have hE := (Real.exp_pos (-m k)).ne'
    have hTk := (hTpos k).ne'
    rw [div_coe _ _ (mul_ne_zero hTk hE)]
    congr 1
    show e d * q k d * Real.exp (-m k) / (T k * Real.exp (-m k)) = _
    field_simp
  have hL : ∀ k, weight (u k d) * Ideal.div ((1 : ℝ) : EReal) (S k) = ((q k d * (1 / T k) : ℝ) : EReal) := fun k => by
    rw [hST, div_coe _ _ (hTpos k).ne', hqq, EReal.coe_mul]
  simp only [hR, hL, hee]
  obtain ⟨i, -, hi⟩ := Finset.exists_max_image Finset.univ (fun k => q k d * (1 / T k)) ⟨0, Finset.mem_univ 0⟩
  rw [fold_max_eq _ i fun j => by exact_mod_cast hi j (Finset.mem_univ j), ← EReal.coe_mul,
    fold_max_eq (fun k => ((e d * (q k d * (1 / T k)) : ℝ) : EReal)) i fun j => by
      exact_mod_cast mul_le_mul_of_nonneg_left (hi j (Finset.mem_univ j)) (he d)]

end Cert.Draw

end
-- ==== Proof.Rounds.lean ====
/- What one step of the mask call writes: ten equal rounds, then a comparison. -/
module

public import proofs.«01_k».proof.Proof.Gen.KernelIdeal.Frame

@[expose] public section

set_option maxRecDepth 65536

noncomputable section

namespace Cert.Draw

open Idealize.ShloMosaic Idealize.SL.Sem Cert.KernelIdeal Cert.KernelIdeal.Gen

variable {F : FTy → Type} [FloatOps F]

/-- Each row's greatest entry. -/
def top (x : FVec F S8x32768 .f32) : FVec F S8x1 .f32 :=
  shapeCast S8x1 (multiReduction .maximumf [1] S8 x 0xFF800000#32 reduces_S8x32768_S8 (.inl rfl) rfl) shapeCasts_S8_S8x1

/-- Where a row attains its greatest entry. -/
def hit (x : FVec F S8x32768 .f32) : IVec S8x32768 1 :=
  cmpf .oeq x (broadcastTo S8x32768 (top x) broadcasts_S8x1_S8x32768)

/-- How often a row attains its greatest entry. -/
def hits (x : FVec F S8x32768 .f32) : IVec S8x1 32 :=
  shapeCast S8x1
    (multiReductionI .add [1] S8 (select (hit x) (broadcast S8x32768 1#32) (broadcast S8x32768 0#32)) 0#32 reduces_S8x32768_S8 rfl)
    shapeCasts_S8_S8x1

/-- The entries left after `n` rounds: each round overwrites a row's greatest entries by the least value. -/
def left (x : FVec F S8x32768 .f32) : Nat → FVec F S8x32768 .f32
  | 0 => x
  | n + 1 => select (hit (left x n)) (broadcast S8x32768 (Scalar.ofBits .f32 0xFF800000#32)) (left x n)

/-- How many of the ten are still to be found after `n` rounds. -/
def todo (x : FVec F S8x32768 .f32) : Nat → IVec S8x1 32
  | 0 => broadcast S8x1 10#32
  | n + 1 => select (cmpi .sgt (todo x n) (broadcast S8x1 0#32)) (subi (todo x n) (hits (left x n))) (todo x n)

/-- The threshold after `n` rounds: the greatest entry of the last round that still had some to find. -/
def thresh (x : FVec F S8x32768 .f32) : Nat → FVec F S8x1 .f32
  | 0 => broadcast S8x1 (Scalar.ofBits .f32 0xFF800000#32)
  | n + 1 => select (cmpi .sgt (todo x n) (broadcast S8x1 0#32)) (top (left x n)) (thresh x n)

/-- One where an entry reaches its row's threshold, zero elsewhere. -/
def maskBlock (x0 : Vec F S1x8x32768 .f32) : FVec F S1x8x32768 .f32 :=
  shapeCast S1x8x32768
    (sitofp .f32 (extui 32
      (cmpf .oge (shapeCast S8x32768 x0 shapeCasts_S1x8x32768_S8x32768)
        (broadcastTo S8x32768 (thresh (shapeCast S8x32768 x0 shapeCasts_S1x8x32768_S8x32768) 10) broadcasts_S8x1_S8x32768))
      natLt_1_32))
    shapeCasts_S8x32768_S1x8x32768

/-- The printed store is the comparison with the threshold after ten rounds. -/
theorem mask_out_eq (x0 : Vec F S1x8x32768 .f32) :
    out1_1 x0 = View.canon [(⟨r1_0, maskBlock (View.ld x0 r1_0)⟩ : View.Piece (Elt F) S1x8x32768 .f32)] := by
  rfl

end Cert.Draw

end
-- ==== Proof.TopMath.lean ====
/- The tenth greatest entry of a row: what ten rounds of taking out the greatest entries find, and what a sort puts tenth. -/
module

public import Idealize.ShloMosaic.PureOps.Ideal
public import Idealize.ShloMosaic.PureOps.Ideal.Laws
public import Idealize.ShloMosaic.Lib.SortFacts

@[expose] public section

noncomputable section

namespace Cert.Draw

open Idealize.ShloMosaic

/-- Fewer than ten entries exceed `t`, and at least ten reach it. -/
def Tenth {N : Nat} (x : Fin N → EReal) (t : EReal) : Prop :=
  (Finset.univ.filter fun i => t < x i).card < 10 ∧ 10 ≤ (Finset.univ.filter fun i => t ≤ x i).card

/-- No smaller value has the property of the tenth greatest entry. -/
theorem Tenth.le {N : Nat} {x : Fin N → EReal} {s t : EReal} (hs : Tenth x s) (ht : Tenth x t) : t ≤ s := by
  by_contra h
  have hsub : (Finset.univ.filter fun i => t ≤ x i) ⊆ Finset.univ.filter fun i => s < x i := fun i hi => by
    simp only [Finset.mem_filter, Finset.mem_univ, true_and] at hi ⊢
    exact lt_of_lt_of_le (not_le.1 h) hi
  have := Finset.card_le_card hsub
  have h1 := hs.1
  have h2 := ht.2
  omega

/-- The tenth greatest entry is determined. -/
theorem Tenth.eq {N : Nat} {x : Fin N → EReal} {s t : EReal} (hs : Tenth x s) (ht : Tenth x t) : s = t :=
  le_antisymm (ht.le hs) (hs.le ht)

/-- A sort that leaves no later entry above an earlier one puts the tenth greatest entry tenth. -/
theorem tenth_of_sort {N : Nat} (x : Fin N → EReal) (σ : Fin N → Fin N) (hσ : Function.Bijective σ)
    (hord : ∀ i j : Fin N, i < j → x (σ j) ≤ x (σ i)) (k : Fin N) (hk : k.val = 9) : Tenth x (x (σ k)) := by
  have hmono : ∀ i j : Fin N, i ≤ j → x (σ j) ≤ x (σ i) := fun i j h => by
    rcases h.lt_or_eq with h | h
    · exact hord i j h
    · rw [h]
  constructor
  · have hsub : (Finset.univ.filter fun i => x (σ k) < x i) ⊆ (Finset.Iio k).image σ := fun i hi => by
      simp only [Finset.mem_filter, Finset.mem_univ, true_and] at hi
      obtain ⟨j, rfl⟩ := hσ.2 i
      refine Finset.mem_image.2 ⟨j, Finset.mem_Iio.2 ?_, rfl⟩
      by_contra h
      exact absurd (hmono k j (not_lt.1 h)) (not_le.2 hi)
    have h1 := Finset.card_le_card hsub
    have h2 : ((Finset.Iio k).image σ).card ≤ _ := Finset.card_image_le
    rw [Fin.card_Iio] at h2
    omega
  · have hsub : (Finset.Iic k).image σ ⊆ Finset.univ.filter fun i => x (σ k) ≤ x i := fun i hi => by
      obtain ⟨j, hj, rfl⟩ := Finset.mem_image.1 hi
      simp only [Finset.mem_filter, Finset.mem_univ, true_and]
      exact hmono j k (Finset.mem_Iic.1 hj)
    have h1 := Finset.card_le_card hsub
    rw [Finset.card_image_of_injective _ hσ.1, Fin.card_Iic] at h1
    omega

/-- A word's value less another's, when the difference stays in range. -/
theorem toInt_sub_of_le {a c : BitVec 32} (ha : 0 ≤ a.toInt) (ha' : a.toInt ≤ 10) (hc : c.toNat ≤ 32768) :
    (a - c).toInt = a.toInt - c.toNat := by
  have h : c.toInt = c.toNat := by
    rw [BitVec.toInt_eq_toNat_of_lt (by omega)]
  rw [BitVec.toInt_sub, h]
  exact Int.bmod_eq_of_le (by omega) (by omega)

/-- Where a search stands: either fewer than ten entries `A`, all above the rest, have been taken out and the count of the
    ones still to be found is positive, or the count is used up and the threshold is the tenth greatest entry. -/
def Stands {N : Nat} (x : Fin N → EReal) (n : Nat) (L : Fin N → EReal) (T : BitVec 32) (H : EReal) : Prop :=
  (∃ A : Finset (Fin N), n ≤ A.card ∧ A.card < 10 ∧ T.toInt = 10 - A.card ∧ (∀ i, L i = if i ∈ A then ⊥ else x i)
      ∧ ∀ i ∈ A, ∀ j, j ∉ A → x j < x i)
    ∨ (T.toInt ≤ 0 ∧ Tenth x H)

/-- One round. -/
theorem Stands.step {N : Nat} (h10 : 10 ≤ N) (hN : N ≤ 32768) {x : Fin N → EReal} {n : Nat} {L L' : Fin N → EReal}
    {T T' c : BitVec 32} {H H' M : EReal} (hs : Stands x n L T H)
    (hM : M = (Finset.univ : Finset (Fin N)).fold max ⊥ L)
    (hL : ∀ i, L' i = if L i = M then ⊥ else L i)
    (hc : c.toNat = (Finset.univ.filter fun i => L i = M).card)
    (hT : T' = if 0 < T.toInt then T - c else T) (hH : H' = if 0 < T.toInt then M else H) :
    Stands x (n + 1) L' T' H' := by
  have hcN : c.toNat ≤ 32768 := by
    rw [hc]
    refine (Finset.card_filter_le _ _).trans ?_
    rw [Finset.card_univ, Fintype.card_fin]; exact hN
  have hle : ∀ i, L i ≤ M := fun i => by
    rw [hM]; exact (Finset.le_fold_max _).2 (.inr ⟨i, Finset.mem_univ i, le_rfl⟩)
  have hat : ∃ i, L i = M := by
    obtain ⟨i, -, hi⟩ := Finset.exists_max_image (Finset.univ : Finset (Fin N)) L ⟨⟨0, by omega⟩, Finset.mem_univ _⟩
    refine ⟨i, le_antisymm (hle i) ?_⟩
    rw [hM]
    exact (Finset.fold_max_le _).2 ⟨bot_le, hi⟩
  rcases hs with ⟨A, hnA, hA, hTA, hLA, hup⟩ | ⟨hT0, hten⟩
  · have hpos : 0 < T.toInt := by omega
    rw [if_pos hpos] at hT hH
    have hT' : T'.toInt = 10 - A.card - c.toNat := by
      rw [hT, toInt_sub_of_le hpos.le (by omega) hcN, hTA]
    subst hH
    by_cases hb : H' = ⊥
    · right
      have hall : ∀ i, L i = H' := fun i => le_antisymm (hle i) (by rw [hb]; exact bot_le)
      have hcN' : c.toNat = N := by
        rw [hc, Finset.filter_true_of_mem fun i _ => hall i, Finset.card_univ, Fintype.card_fin]
      refine ⟨by omega, ?_, ?_⟩
      · refine lt_of_le_of_lt (Finset.card_le_card fun i hi => ?_) hA
        simp only [Finset.mem_filter, Finset.mem_univ, true_and] at hi
        by_contra hiA
        have := hLA i
        rw [if_neg hiA, hall i] at this
        rw [this] at hi
        exact lt_irrefl _ hi
      · rw [Finset.filter_true_of_mem fun i _ => by rw [hb]; exact bot_le, Finset.card_univ, Fintype.card_fin]
        exact h10
    · have hmem : ∀ i, L i = H' ↔ i ∉ A ∧ x i = H' := fun i => by
        rw [hLA i]
        by_cases hi : i ∈ A
        · rw [if_pos hi]; exact ⟨fun h => absurd h.symm hb, fun h => absurd hi h.1⟩
        · rw [if_neg hi]; exact ⟨fun h => ⟨hi, h⟩, fun h => h.2⟩
      have hxle : ∀ i, i ∉ A → x i ≤ H' := fun i hi => by
        have := hle i
        rwa [hLA i, if_neg hi] at this
      set B : Finset (Fin N) := Finset.univ.filter fun i => L i = H' with hB
      have hBmem : ∀ i, i ∈ B ↔ i ∉ A ∧ x i = H' := fun i => by
        rw [hB, Finset.mem_filter, hmem]; simp
      have hdis : Disjoint A B := Finset.disjoint_left.2 fun i hi hi' => ((hBmem i).1 hi').1 hi
      have hcard : (A ∪ B).card = A.card + c.toNat := by rw [Finset.card_union_of_disjoint hdis, hc]
      have hB1 : 1 ≤ c.toNat := by
        rw [hc]
        obtain ⟨i, hi⟩ := hat
        exact Finset.card_pos.2 ⟨i, Finset.mem_filter.2 ⟨Finset.mem_univ i, hi⟩⟩
      obtain ⟨i0, hi0⟩ := hat
      have hi0' := (hmem i0).1 hi0
      by_cases hlt : (A ∪ B).card < 10
      · left
        refine ⟨A ∪ B, by omega, hlt, by omega, fun i => ?_, fun i hi j hj => ?_⟩
        · rw [hL i]
          by_cases hiB : L i = H'
          · rw [if_pos hiB, if_pos (Finset.mem_union_right _ ((hBmem i).2 ((hmem i).1 hiB)))]
          · rw [if_neg hiB, hLA i]
            by_cases hiA : i ∈ A
            · rw [if_pos hiA, if_pos (Finset.mem_union_left _ hiA)]
            · have : i ∉ A ∪ B := fun h => by
                rcases Finset.mem_union.1 h with h | h
                · exact hiA h
                · exact hiB ((hmem i).2 ((hBmem i).1 h))
              rw [if_neg hiA, if_neg this]
        · have hjA : j ∉ A := fun h => hj (Finset.mem_union_left _ h)
          rcases Finset.mem_union.1 hi with hi | hi
          · exact hup i hi j hjA
          · rw [((hBmem i).1 hi).2]
            exact lt_of_le_of_ne (hxle j hjA) fun h => hj (Finset.mem_union_right _ ((hBmem j).2 ⟨hjA, h⟩))
      · right
        refine ⟨by omega, ?_, ?_⟩
        · refine lt_of_le_of_lt (Finset.card_le_card fun i hi => ?_) hA
          simp only [Finset.mem_filter, Finset.mem_univ, true_and] at hi
          by_contra hiA
          exact absurd (hxle i hiA) (not_le.2 hi)
        · refine (not_lt.1 hlt).trans (Finset.card_le_card fun i hi => ?_)
          simp only [Finset.mem_filter, Finset.mem_univ, true_and]
          rcases Finset.mem_union.1 hi with hi | hi
          · rw [← hi0'.2]; exact (hup i hi i0 hi0'.1).le
          · exact ((hBmem i).1 hi).2.ge
  · right
    rw [if_neg (not_lt.2 hT0)] at hT hH
    rw [hT, hH]
    exact ⟨hT0, hten⟩

/-- Ten rounds find the tenth greatest entry. -/
theorem tenth_of_rounds {N : Nat} (h10 : 10 ≤ N) (hN : N ≤ 32768) (x : Fin N → EReal) (L : Nat → Fin N → EReal)
    (T c : Nat → BitVec 32) (H M : Nat → EReal) (hM : ∀ n, M n = (Finset.univ : Finset (Fin N)).fold max ⊥ (L n))
    (hL0 : ∀ i, L 0 i = x i) (hL : ∀ n i, L (n + 1) i = if L n i = M n then ⊥ else L n i)
    (hc : ∀ n, (c n).toNat = (Finset.univ.filter fun i => L n i = M n).card)
    (hT0 : T 0 = 10#32) (hT : ∀ n, T (n + 1) = if 0 < (T n).toInt then T n - c n else T n)
    (hH : ∀ n, H (n + 1) = if 0 < (T n).toInt then M n else H n) : Tenth x (H 10) := by
  have hall : ∀ n, Stands x n (L n) (T n) (H n) := fun n => by
    induction n with
    | zero =>
      left
      refine ⟨∅, le_rfl, by simp, by rw [hT0]; rfl, fun i => by rw [hL0]; simp, fun i hi => absurd hi (Finset.notMem_empty i)⟩
    | succ n ih => exact ih.step h10 hN (hM n) (hL n) (hc n) (hT n) (hH n)
  rcases hall 10 with ⟨A, h1, h2, -⟩ | h
  · omega
  · exact h.2

end Cert.Draw

end
-- ==== Proof.RoundsRead.lean ====
/- The mask call's block read at an index, over the extended reals: one where the entry reaches its row's tenth greatest. -/
module

public import proofs.«01_k».proof.Proof.Rounds
public import proofs.«01_k».proof.Proof.TopMath
public import proofs.«01_k».proof.Proof.DrawMath
public import Idealize.ShloMosaic.Lib.Pipeline.Value
public import Idealize.ShloMosaic.Lib.ValueIdx
public import Idealize.ShloMosaic.Lib.WordSum

@[expose] public section

set_option maxRecDepth 65536

noncomputable section

namespace Cert.Draw

open Idealize.ShloMosaic Idealize.ShloMosaic.ValueIdx Idealize.SL.Sem Cert.KernelIdeal Cert.KernelIdeal.Gen

/-- A row's column inserted next to the row. -/
theorem lift_row (r : Fin 8) (d : Fin 32768) : reduces_S8x32768_S8.lift (ix1 r) d = ix2 r d := by
  funext a
  match a with
  | ⟨0, _⟩ => rfl
  | ⟨1, _⟩ => rfl

/-- A column vector's only column. -/
theorem cast_col {α : Type} (x : S8.Idx → α) (r : Fin 8) : shapeCast S8x1 x shapeCasts_S8_S8x1 (ix2 r 0) = x (ix1 r) :=
  shapeCast_apply x _ _ _ (by simp [Shape.rowMajor_val_one, Shape.rowMajor_val_two])

/-- A column vector spread over the columns. -/
theorem spread_col {α : Type} (x : S8x1.Idx → α) (r : Fin 8) (d : Fin 32768) :
    broadcastTo S8x32768 x broadcasts_S8x1_S8x32768 (ix2 r d) = x (ix2 r 0) :=
  broadcastTo_apply x _ _ _ fun a => by
    match a with
    | ⟨0, _⟩ => rfl
    | ⟨1, _⟩ => rfl

/-- A row's greatest entry is the fold of the maximum over the row. -/
theorem top_apply (x : FVec Ideal S8x32768 .f32) (r : Fin 8) :
    top x (ix2 r 0) = (Finset.univ : Finset (Fin 32768)).fold max (⊥ : EReal) (fun d => x (ix2 r d)) := by
  refine (cast_col _ r).trans ((Ideal.multiReduction_maximumf_single x _ reduces_S8x32768_S8 _ _ (ix1 r)).trans ?_)
  rw [show (FloatOps.ofBits .f32 0xFF800000#32 : Ideal .f32) = (⊥ : EReal) from bits_bot]
  exact congrArg (fun f : Fin 32768 → EReal => Finset.univ.fold max (⊥ : EReal) f) (funext fun d => congrArg x (lift_row r d))

/-- The hits of a row are where an entry equals the greatest. -/
theorem hit_apply (x : FVec Ideal S8x32768 .f32) (r : Fin 8) (d : Fin 32768) :
    hit x (ix2 r d) = BitVec.ofBool (decide (x (ix2 r d) = top x (ix2 r 0))) := by
  show Ideal.cmp .oeq (x (ix2 r d)) (broadcastTo S8x32768 (top x) broadcasts_S8x1_S8x32768 (ix2 r d)) = _
  rw [spread_col]
  rfl

/-- A choice by a decided bit. -/
theorem select_ofBool {α : Type} (p : Prop) [Decidable p] (a b : α) :
    Scalar.select (BitVec.ofBool (decide p)) a b = if p then a else b := by
  unfold Scalar.select
  by_cases h : p <;> simp [h]

/-- The count of a row's hits. -/
theorem hits_apply (x : FVec Ideal S8x32768 .f32) (r : Fin 8) :
    (hits x (ix2 r 0)).toNat = (Finset.univ.filter fun d : Fin 32768 => x (ix2 r d) = top x (ix2 r 0)).card := by
  have hsum : ∑ i ∈ Finset.univ.filter (fun i => reduces_S8x32768_S8.drop i = ix1 r),
      (select (hit x) (broadcast S8x32768 1#32) (broadcast S8x32768 0#32) i).toNat
        = (Finset.univ.filter fun d : Fin 32768 => x (ix2 r d) = top x (ix2 r 0)).card := by
    refine (reduces_S8x32768_S8.sum_filter_drop_single _ (ix1 r)).trans ?_
    rw [Finset.card_filter]
    refine Finset.sum_congr rfl fun (d : Fin 32768) _ => ?_
    refine (congrArg (fun i => (select (hit x) (broadcast S8x32768 1#32) (broadcast S8x32768 0#32) i).toNat) (lift_row r d)).trans ?_
    show (Scalar.select (hit x (ix2 r d)) 1#32 0#32).toNat = _
    rw [hit_apply, select_ofBool]
    split <;> rfl
  rw [← hsum]
  refine (congrArg BitVec.toNat (cast_col _ r)).trans (WordSum.toNat_multiReductionI_add _ reduces_S8x32768_S8 rfl (ix1 r) ?_)
  rw [hsum]
  refine lt_of_le_of_lt (Finset.card_filter_le _ _) ?_
  rw [Finset.card_univ, Fintype.card_fin]
  omega

/-- The signed comparison with zero. -/
theorem sgt_zero {α : Type} (T : BitVec 32) (a b : α) :
    Scalar.select (IntOp.cmpi .sgt T 0#32) a b = if 0 < T.toInt then a else b := by
  show Scalar.select (BitVec.ofBool ((0#32).slt T)) a b = _
  rw [BitVec.slt]
  exact select_ofBool _ a b

/-- After ten rounds a row's threshold is its tenth greatest entry. -/
theorem thresh_tenth (x : FVec Ideal S8x32768 .f32) (r : Fin 8) :
    Tenth (fun d : Fin 32768 => x (ix2 r d)) (thresh x 10 (ix2 r 0)) := by
  refine tenth_of_rounds (by norm_num) le_rfl _ (fun n d => left x n (ix2 r d)) (fun n => todo x n (ix2 r 0))
    (fun n => hits (left x n) (ix2 r 0)) (fun n => thresh x n (ix2 r 0)) (fun n => top (left x n) (ix2 r 0))
    (fun n => top_apply _ r) (fun d => rfl) (fun n d => ?_) (fun n => hits_apply _ r) rfl (fun n => ?_) (fun n => ?_)
  · show Scalar.select (hit (left x n) (ix2 r d)) (Scalar.ofBits .f32 0xFF800000#32 : Ideal .f32) (left x n (ix2 r d)) = _
    rw [hit_apply, select_ofBool, show (Scalar.ofBits .f32 0xFF800000#32 : Ideal .f32) = (⊥ : EReal) from bits_bot]
  · exact sgt_zero _ _ _
  · exact sgt_zero _ _ _

/-- A block without its leading axis. -/
theorem cast_drop {α : Type} (x : S1x8x32768.Idx → α) (r : Fin 8) (d : Fin 32768) :
    shapeCast S8x32768 x shapeCasts_S1x8x32768_S8x32768 (ix2 r d) = x (ix3 0 r d) :=
  shapeCast_apply x _ _ _ (by simp [Shape.rowMajor_val_two, Shape.rowMajor_val_three])

/-- A block with its leading axis again. -/
theorem cast_add {α : Type} (x : S8x32768.Idx → α) (r : Fin 8) (d : Fin 32768) :
    shapeCast S1x8x32768 x shapeCasts_S8x32768_S1x8x32768 (ix3 0 r d) = x (ix2 r d) :=
  shapeCast_apply x _ _ _ (by simp [Shape.rowMajor_val_two, Shape.rowMajor_val_three])

/-- A decided bit widened and read as a number. -/
theorem bit_value (p : Prop) [Decidable p] :
    (FloatOps.sitofp .f32 ((BitVec.ofBool (decide p)).setWidth 32) : Ideal .f32) = if p then (1 : EReal) else 0 := by
  show (((((BitVec.ofBool (decide p)).setWidth 32).toInt : ℤ) : ℝ) : EReal) = _
  by_cases h : p <;> simp [h]

/-- The block's offsets are all zero. -/
theorem zero_off : (![0, 0, 0] : Fin 3 → Nat) = fun _ => 0 := funext fun a => by fin_cases a <;> rfl

/-- The one store covers the block, and the one load reads the whole of it. -/
theorem mask_out_whole (x0 : Vec Ideal S1x8x32768 .f32) : out1_1 x0 = maskBlock x0 := by
  have h1 : View.ld x0 r1_0 = x0 := View.ld_unit_zero (Val := Elt Ideal) (S := S1x8x32768) (e := .f32) (off := ![0, 0, 0]) zero_off inb_S1x8x32768_S1x8x32768_0_0_0 x0
  rw [mask_out_eq, h1]
  exact View.canon_unit_zero (Val := Elt Ideal) (S := S1x8x32768) (e := .f32) (off := ![0, 0, 0]) zero_off inb_S1x8x32768_S1x8x32768_0_0_0 (maskBlock x0)

/-- The comparison with the threshold, read at an index. -/
theorem mask_block_apply (x0 : Vec Ideal S1x8x32768 .f32) (r : Fin 8) (d : Fin 32768) (t : EReal)
    (ht : Tenth (fun d : Fin 32768 => x0 (ix3 0 r d)) t) :
    maskBlock x0 (ix3 0 r d) = if t ≤ x0 (ix3 0 r d) then (1 : EReal) else 0 := by
  have hth := thresh_tenth (shapeCast S8x32768 x0 shapeCasts_S1x8x32768_S8x32768) r
  simp only [cast_drop] at hth
  unfold maskBlock
  rw [cast_add, ht.eq hth]
  generalize thresh (F := Ideal) (shapeCast S8x32768 x0 shapeCasts_S1x8x32768_S8x32768) 10 = th
  rw [← cast_drop x0 r d, ← spread_col th r d]
  exact bit_value _

/-- The mask call's block: one where an entry reaches its row's tenth greatest entry, zero elsewhere. -/
theorem mask_out_apply (x0 : Vec Ideal S1x8x32768 .f32) (r : Fin 8) (d : Fin 32768) (t : EReal)
    (ht : Tenth (fun d : Fin 32768 => x0 (ix3 0 r d)) t) :
    out1_1 x0 (ix3 0 r d) = if t ≤ x0 (ix3 0 r d) then (1 : EReal) else 0 := by
  rw [mask_out_whole]
  exact mask_block_apply x0 r d t ht

end Cert.Draw

end
-- ==== Proof.DrawRead.lean ====
/- The sampling call's block read at an index, over the extended reals: the exponential of the capped logit times the greatest
   of the ten draws' factors, each over its normalizing sum. -/
module

public import proofs.«01_k».proof.Proof.Chunks
public import proofs.«01_k».proof.Proof.DrawMath
public import proofs.«01_k».proof.Proof.RoundsRead
public import Idealize.ShloMosaic.Lib.Pipeline.ValueKit.Tiles

@[expose] public section

set_option maxRecDepth 65536

noncomputable section

namespace Cert.Draw

open Idealize.ShloMosaic Idealize.ShloMosaic.ValueIdx Idealize.SL.Sem Cert.KernelIdeal Cert.KernelIdeal.Gen

/-- Column `c` of chunk `k`. -/
def col (k : Fin 128) (c : Fin 256) : Fin 32768 := ⟨256 * k.val + c.val, by have := k.isLt; have := c.isLt; omega⟩

/-- A sum over the chunks and their columns is the sum over all columns. -/
theorem sum_col (f : Fin 32768 → EReal) : ∑ k : Fin 128, ∑ c : Fin 256, f (col k c) = ∑ d, f d := by
  rw [← Fintype.sum_prod_type']
  refine Fintype.sum_equiv (finProdFinEquiv (m := 128) (n := 256)) _ _ fun p => congrArg f (Fin.ext ?_)
  show 256 * p.1.val + p.2.val = p.2.val + 256 * p.1.val
  omega

/-- The exponentials. -/
theorem expo_apply (x0 : Vec Ideal S1x8x32768 .f32) (x1 : Vec Ideal S8x10x32768 .f32) (r : Fin 8) (d : Fin 32768) :
    k0_pay248 x0 x1 (ix2 r d) = expo (x0 (ix3 0 r d)) := by
  have h1 : View.ld x0 r0_0 = x0 := View.ld_unit_zero (Val := Elt Ideal) (S := S1x8x32768) (e := .f32) (off := ![0, 0, 0]) zero_off
    inb_S1x8x32768_S1x8x32768_0_0_0 x0
  have h2 : k0_pay248 x0 x1 = k0_pay3 x0 := congrArg (k0_pay3 (F := Ideal)) h1
  rw [h2]
  unfold k0_pay3 expo
  show Ideal.exp (min (shapeCast S8x32768 x0 shapeCasts_S1x8x32768_S8x32768 (ix2 r d)) (Ideal.ofBits .f32 0x42200000#32)
    * Ideal.ofBits .f32 0x40000000#32) = _
  rw [cast_drop x0 r d, bits_forty, bits_two]

/-- A chunk of the uniforms. -/
theorem uni_apply (x1 : Vec Ideal S8x10x32768 .f32) (k : Fin 128) (r : Fin 8) (j : Fin 10) (c : Fin 256) :
    uni x1 k (ix3 r j c) = x1 (ix3 r j (col k c)) :=
  View.ld_unit_apply_of (Val := Elt Ideal) (S := S8x10x32768) (e := .f32) x1 _ _ (uni_inb k) (ix3 r j c) (ix3 r j (col k c)) fun a => by
    match a with
    | ⟨0, _⟩ => exact (Nat.zero_add _).symm
    | ⟨1, _⟩ => exact (Nat.zero_add _).symm
    | ⟨2, _⟩ => rfl

/-- A chunk's factors. -/
theorem recip_apply (x1 : Vec Ideal S8x10x32768 .f32) (k : Fin 128) (r : Fin 8) (j : Fin 10) (c : Fin 256) :
    recip (uni x1 k) (ix3 r j c) = weight (x1 (ix3 r j (col k c))) := by
  show Ideal.div (Ideal.ofBits .f32 0x3F800000#32) (Ideal.log (uni x1 k (ix3 r j c)) * Ideal.log (uni x1 k (ix3 r j c))) = _
  rw [uni_apply, bits_one]
  rfl

/-- A chunk of the exponentials. -/
theorem cut_apply (e : FVec Ideal S8x32768 .f32) (k : Fin 128) (r : Fin 8) (c : Fin 256) :
    cut e k (ix2 r c) = e (ix2 r (col k c)) :=
  extractStridedSlice_apply _ e (e_slices k) (ix2 r c) (ix2 r (col k c)) fun a => by
    match a with
    | ⟨0, _⟩ => exact (Nat.zero_add _).symm
    | ⟨1, _⟩ => rfl

/-- A chunk of the exponentials, repeated for the ten draws. -/
theorem spread_draw {α : Type} (x : S8x256.Idx → α) (r : Fin 8) (j : Fin 10) (c : Fin 256) :
    broadcastTo S8x10x256 (shapeCast S8x1x256 x shapeCasts_S8x256_S8x1x256) broadcasts_S8x1x256_S8x10x256 (ix3 r j c) = x (ix2 r c) := by
  refine (broadcastTo_apply _ _ (ix3 r j c) (ix3 r 0 c) fun a => ?_).trans (shapeCast_apply x _ _ (ix2 r c) ?_)
  · match a with
    | ⟨0, _⟩ => rfl
    | ⟨1, _⟩ => rfl
    | ⟨2, _⟩ => rfl
  · simp [Shape.rowMajor_val_two, Shape.rowMajor_val_three]

/-- A draw's number, repeated along a chunk's columns. -/
theorem spread_scale {α : Type} (x : S8x10x1.Idx → α) (r : Fin 8) (j : Fin 10) (c : Fin 256) :
    broadcastTo S8x10x256 x broadcasts_S8x10x1_S8x10x256 (ix3 r j c) = x (ix3 r j 0) :=
  broadcastTo_apply x _ _ _ fun a => by
    match a with
    | ⟨0, _⟩ => rfl
    | ⟨1, _⟩ => rfl
    | ⟨2, _⟩ => rfl

/-- A chunk's part of the normalizing sum. -/
theorem chunkSum_apply (e : FVec Ideal S8x32768 .f32) (x1 : Vec Ideal S8x10x32768 .f32) (k : Fin 128) (r : Fin 8) (j : Fin 10) :
    chunkSum e x1 k (ix3 r j 0) = ∑ c : Fin 256, e (ix2 r (col k c)) * weight (x1 (ix3 r j (col k c))) := by
  unfold chunkSum
  refine (shapeCast_apply _ _ _ (ix2 r j) (by simp [Shape.rowMajor_val_two, Shape.rowMajor_val_three])).trans ?_
  refine (Ideal.multiReduction_add_single _ _ reduces_S8x10x256_S8x10 _ _ (ix2 r j)).trans ?_
  refine Finset.sum_congr rfl fun (c : Fin 256) _ => ?_
  have hl : reduces_S8x10x256_S8x10.lift (ix2 r j) c = ix3 r j c := by
    funext a
    match a with
    | ⟨0, _⟩ => rfl
    | ⟨1, _⟩ => rfl
    | ⟨2, _⟩ => rfl
  refine (congrArg _ hl).trans ?_
  exact congrArg₂ (fun a b : EReal => a * b) ((spread_draw _ r j c).trans (cut_apply e k r c)) (recip_apply x1 k r j c)

/-- The normalizing sum over the first chunks. -/
theorem acc_apply (e : FVec Ideal S8x32768 .f32) (x1 : Vec Ideal S8x10x32768 .f32) (r : Fin 8) (j : Fin 10) :
    ∀ (n : Nat) (h : n ≤ 128), acc e x1 n h (ix3 r j 0)
      = ∑ k : Fin n, ∑ c : Fin 256, e (ix2 r (col (k.castLE h) c)) * weight (x1 (ix3 r j (col (k.castLE h) c)))
  | 0, h => bits_zero
  | n + 1, h => by
    rw [Fin.sum_univ_castSucc]
    exact congrArg₂ (fun a b : EReal => a + b) (acc_apply e x1 r j n (Nat.le_of_succ_le h)) (chunkSum_apply e x1 ⟨n, h⟩ r j)

/-- The inverse of the whole normalizing sum. -/
theorem scale_apply (e : FVec Ideal S8x32768 .f32) (x1 : Vec Ideal S8x10x32768 .f32) (r : Fin 8) (j : Fin 10) :
    scale e x1 (ix3 r j 0) = Ideal.div ((1 : ℝ) : EReal) (∑ d : Fin 32768, e (ix2 r d) * weight (x1 (ix3 r j d))) := by
  show Ideal.div (Ideal.ofBits .f32 0x3F800000#32) (acc e x1 128 (Nat.le_refl _) (ix3 r j 0)) = _
  rw [acc_apply, bits_one]
  exact congrArg _ (sum_col fun d => e (ix2 r d) * weight (x1 (ix3 r j d)))

/-- A chunk of the result. -/
theorem piece_apply (e : FVec Ideal S8x32768 .f32) (rs : FVec Ideal S8x10x1 .f32) (x1 : Vec Ideal S8x10x32768 .f32) (k : Fin 128)
    (r : Fin 8) (c : Fin 256) :
    piece e rs x1 k (ix3 0 r c) = e (ix2 r (col k c))
      * (Finset.univ : Finset (Fin 10)).fold max ⊥ (fun j => weight (x1 (ix3 r j (col k c))) * rs (ix3 r j 0)) := by
  unfold piece
  refine (shapeCast_apply _ _ _ (ix2 r c) (by simp [Shape.rowMajor_val_two, Shape.rowMajor_val_three])).trans ?_
  refine congrArg₂ (fun a b : EReal => a * b) (cut_apply e k r c) ?_
  refine (Ideal.multiReduction_maximumf_single _ _ reduces_S8x10x256_S8x256 _ _ (ix2 r c)).trans ?_
  rw [show (FloatOps.ofBits .f32 0xFF800000#32 : Ideal .f32) = (⊥ : EReal) from bits_bot]
  refine congrArg (fun f : Fin 10 → EReal => Finset.univ.fold max (⊥ : EReal) f) (funext fun j => ?_)
  have hl : reduces_S8x10x256_S8x256.lift (ix2 r c) j = ix3 r j c := by
    funext a
    match a with
    | ⟨0, _⟩ => rfl
    | ⟨1, _⟩ => rfl
    | ⟨2, _⟩ => rfl
  refine (congrArg _ hl).trans ?_
  exact congrArg₂ (fun a b : EReal => a * b) (recip_apply x1 k r j c) (spread_scale rs r j c)

/-- The sampling call's block. -/
theorem draw_out_apply (x0 : Vec Ideal S1x8x32768 .f32) (x1 : Vec Ideal S8x10x32768 .f32) (r : Fin 8) (d : Fin 32768) :
    out0_2 x0 x1 (ix3 0 r d) = expo (x0 (ix3 0 r d))
      * (Finset.univ : Finset (Fin 10)).fold max ⊥ (fun j => weight (x1 (ix3 r j d))
        * Ideal.div ((1 : ℝ) : EReal) (∑ d' : Fin 32768, expo (x0 (ix3 0 r d')) * weight (x1 (ix3 r j d')))) := by
  rw [out_eq, pay250_eq]
  have hd : d.val < 32768 := d.isLt
  refine View.canon_ofFn_unit_eq_of_forall (Val := Elt Ideal) (S := S1x8x32768) (e := .f32)
    (fun j : Fin 128 => ![0, 0, 256 * j.rev.val]) S1x8x256.size (fun j => res_inb j.rev)
    (fun j => piece (k0_pay248 x0 x1) (scale (k0_pay248 x0 x1) x1) x1 j.rev) (ix3 0 r d) _ ?_ ?_
  · refine ⟨(⟨d.val / 256, by omega⟩ : Fin 128).rev, fun a => ?_⟩
    rw [Fin.rev_rev]
    have hr := r.isLt
    match a with
    | ⟨0, _⟩ => exact ⟨le_rfl, Nat.one_pos⟩
    | ⟨1, _⟩ => exact ⟨Nat.zero_le _, by show r.val < 0 + 8; omega⟩
    | ⟨2, _⟩ => exact ⟨by show 256 * (d.val / 256) ≤ d.val; omega, by show d.val < 256 * (d.val / 256) + 256; omega⟩
  · intro j x hx
    have h1 : r = x 1 := Fin.ext ((hx 1).trans (Nat.zero_add _))
    have h2 : d = col j.rev (x 2) := Fin.ext (hx 2)
    have h0 : x = ix3 0 (x 1) (x 2) := (eq_ix3 x).trans (congrArg (fun a : Fin 1 => (ix3 a (x 1) (x 2) : S1x8x256.Idx)) (Subsingleton.elim (α := Fin 1) (x 0) 0))
    rw [h0]
    refine (piece_apply (k0_pay248 x0 x1) (scale (k0_pay248 x0 x1) x1) x1 j.rev (x 1) (x 2)).trans ?_
    rw [← h2, ← h1]
    simp only [scale_apply, expo_apply]

end Cert.Draw

end
-- ==== Proof.Arrays.lean ====
/- The two calls' result arrays, over the extended reals: every block of a result is written back once, so an array is one
   function of the whole operands. -/
module

public import proofs.«01_k».proof.Proof.DrawRead
public import Idealize.ShloMosaic.Lib.Pipeline.ValueKit

@[expose] public section

set_option maxRecDepth 65536

noncomputable section

namespace Cert.Draw

open Idealize.ShloMosaic hiding ix1 ix2 ix3 eq_ix1 eq_ix2 eq_ix3
open Idealize.ShloMosaic.TcCoe Idealize.ShloMosaic.ValueIdx Idealize.SL.Sem Cert.KernelIdeal Cert.KernelIdeal.Gen

/-- Row `r` of block `b` is row `8 b + r`. -/
def row (b : Fin 16) (r : Fin 8) : Fin 128 := ⟨8 * b.val + r.val, by have := b.isLt; have := r.isLt; omega⟩

/-- One row of the samples: the exponential of the capped logit times the greatest of the ten draws' factors, each over its
    normalizing sum. -/
def drawRow (l : Fin 32768 → EReal) (u : Fin 10 → Fin 32768 → EReal) (d : Fin 32768) : EReal :=
  expo (l d) * (Finset.univ : Finset (Fin 10)).fold max ⊥ (fun j => weight (u j d)
    * Ideal.div ((1 : ℝ) : EReal) (∑ d' : Fin 32768, expo (l d') * weight (u j d')))

/-- A row's tenth greatest entry. -/
def tenth (x : Fin 32768 → EReal) : EReal := Classical.epsilon fun t => Tenth x t

/-- It is whatever has the property. -/
theorem tenth_eq {x : Fin 32768 → EReal} {t : EReal} (h : Tenth x t) : tenth x = t :=
  Tenth.eq (Classical.epsilon_spec (p := fun t => Tenth x t) ⟨t, h⟩) h

/-- Every row has one. -/
theorem tenth_spec (x : Fin 32768 → EReal) : Tenth x (tenth x) :=
  Classical.epsilon_spec (p := fun t => Tenth x t) ⟨_, thresh_tenth (fun i => x (i 1)) 0⟩

/-- One row of the mask: one where an entry reaches the row's tenth greatest. -/
def maskRow (x : Fin 32768 → EReal) (d : Fin 32768) : EReal := if tenth x ≤ x d then 1 else 0

/-- The first call's block, by rows. -/
theorem draw_out_row (x0 : Vec Ideal S1x8x32768 .f32) (x1 : Vec Ideal S8x10x32768 .f32) (r : Fin 8) (d : Fin 32768) :
    out0_2 x0 x1 (ix3 0 r d) = drawRow (fun d => x0 (ix3 0 r d)) (fun j d => x1 (ix3 r j d)) d :=
  draw_out_apply x0 x1 r d

/-- The second call's block, by rows. -/
theorem mask_out_row (x0 : Vec Ideal S1x8x32768 .f32) (r : Fin 8) (d : Fin 32768) :
    out1_1 x0 (ix3 0 r d) = maskRow (fun d => x0 (ix3 0 r d)) d :=
  mask_out_apply x0 r d _ (tenth_spec _)

/-- The first call's whole result. -/
def drawArr (x : Vec Ideal S16x8x32768 .f32) (u : Vec Ideal S128x10x32768 .f32) : Vec Ideal S16x8x32768 .f32 :=
  fun i => drawRow (fun d => x (ix3 (i 0) (i 1) d)) (fun j d => u (ix3 (row (i 0) (i 1)) j d)) (i 2)

/-- The second call's whole result. -/
def maskArr (x : Vec Ideal S16x8x32768 .f32) : Vec Ideal S16x8x32768 .f32 :=
  fun i => maskRow (fun d => x (ix3 (i 0) (i 1) d)) (i 2)

variable (V : (c : Dev nD) → (b : Ref sig .tc) → Buf (Elt Ideal) ((c : Thread nD τ).loc b))

/-- Which block each point names. -/
theorem index0_0 : ∀ t : Fin cfg0.N, win0_0.index t = ![t.val, 0, 0] := by decide +kernel
theorem index0_1 : ∀ t : Fin cfg0.N, win0_1.index t = ![t.val, 0, 0] := by decide +kernel
theorem index0_2 : ∀ t : Fin cfg0.N, win0_2.index t = ![t.val, 0, 0] := by decide +kernel
theorem index1_0 : ∀ t : Fin cfg1.N, win1_0.index t = ![t.val, 0, 0] := by decide +kernel
theorem index1_1 : ∀ t : Fin cfg1.N, win1_1.index t = ![t.val, 0, 0] := by decide +kernel

/-- The logits' block at a point of the first call. -/
theorem iblk0_0_apply (c : Dev nD) (t : Fin cfg0.N) (r : Fin 8) (d : Fin 32768) :
    iblk0 V c 0 t (ix3 0 r d) = V c main_call0_v0 (ix3 (t.cast N_0) r d) := by
  unfold iblk0
  blk_simp
  refine congrArg (V c main_call0_v0) (funext fun a => Fin.ext ?_)
  match a with
  | ⟨0, _⟩ => blk_simp [index0_0]; rfl
  | ⟨1, _⟩ => blk_simp [index0_0]
  | ⟨2, _⟩ => blk_simp [index0_0]

/-- The uniforms' block at a point of the first call. -/
theorem iblk0_1_apply (c : Dev nD) (t : Fin cfg0.N) (r : Fin 8) (j : Fin 10) (d : Fin 32768) :
    iblk0 V c 1 t (ix3 r j d) = V c main_arg1 (ix3 (row (t.cast N_0) r) j d) := by
  unfold iblk0
  blk_simp
  refine congrArg (V c main_arg1) (funext fun a => Fin.ext ?_)
  match a with
  | ⟨0, _⟩ => blk_simp [index0_1]; show t.val * 8 + r.val = 8 * t.val + r.val; omega
  | ⟨1, _⟩ => blk_simp [index0_1]
  | ⟨2, _⟩ => blk_simp [index0_1]

/-- The logits' block at a point of the second call. -/
theorem iblk1_0_apply (c : Dev nD) (t : Fin cfg1.N) (r : Fin 8) (d : Fin 32768) :
    iblk1 V c 0 t (ix3 0 r d) = V c main_call0_v0 (ix3 (t.cast N_1) r d) := by
  unfold iblk1
  blk_simp
  refine congrArg (V c main_call0_v0) (funext fun a => Fin.ext ?_)
  match a with
  | ⟨0, _⟩ => blk_simp [index1_0]; rfl
  | ⟨1, _⟩ => blk_simp [index1_0]
  | ⟨2, _⟩ => blk_simp [index1_0]

/-- An index of a result's block, its leading coordinate being the only one. -/
theorem block_ix (y : S1x8x32768.Idx) : ∃ (r : Fin 8) (d : Fin 32768), y = ix3 0 r d :=
  ⟨y 1, y 2, (eq_ix3 y).trans (congrArg (fun a : Fin 1 => (ix3 a (y 1) (y 2) : S1x8x32768.Idx)) (Subsingleton.elim (α := Fin 1) (y 0) 0))⟩

/-- The place of a result's block in the first call's result. -/
theorem emb0_2 (t : Fin cfg0.N) (r : Fin 8) (d : Fin 32768) :
    ((cfg0.win 2).blk t).view.emb (ix3 0 r d : S1x8x32768.Idx) = (ix3 (t.cast N_0) r d : S16x8x32768.Idx) := funext fun a => Fin.ext (by
    match a with
    | ⟨0, _⟩ => blk_simp [index0_2]; rfl
    | ⟨1, _⟩ => blk_simp [index0_2]
    | ⟨2, _⟩ => blk_simp [index0_2])

/-- The place of a result's block in the second call's result. -/
theorem emb1_1 (t : Fin cfg1.N) (r : Fin 8) (d : Fin 32768) :
    ((cfg1.win 1).blk t).view.emb (ix3 0 r d : S1x8x32768.Idx) = (ix3 (t.cast N_1) r d : S16x8x32768.Idx) := funext fun a => Fin.ext (by
    match a with
    | ⟨0, _⟩ => blk_simp [index1_1]; rfl
    | ⟨1, _⟩ => blk_simp [index1_1]
    | ⟨2, _⟩ => blk_simp [index1_1])

/-- What the first call leaves in a block. -/
theorem draw_block (c : Dev nD) (t : Fin cfg0.N) (r : Fin 8) (d : Fin 32768) :
    out0_2 (iblk0 V c 0 t) (iblk0 V c 1 t) (ix3 0 r d) = drawArr (V c main_call0_v0) (V c main_arg1) (ix3 (t.cast N_0) r d) := by
  refine (draw_out_row (iblk0 V c 0 t) (iblk0 V c 1 t) r d).trans ?_
  have hx : (fun d => iblk0 V c 0 t (ix3 0 r d)) = fun d => V c main_call0_v0 (ix3 (t.cast N_0) r d) :=
    funext fun d => iblk0_0_apply V c t r d
  have hu : (fun (j : Fin 10) (d : Fin 32768) => iblk0 V c 1 t (ix3 r j d)) = fun j d => V c main_arg1 (ix3 (row (t.cast N_0) r) j d) :=
    funext fun j => funext fun d => iblk0_1_apply V c t r j d
  rw [hx, hu]
  rfl

/-- What the second call leaves in a block. -/
theorem mask_block (c : Dev nD) (t : Fin cfg1.N) (r : Fin 8) (d : Fin 32768) :
    out1_1 (iblk1 V c 0 t) (ix3 0 r d) = maskArr (V c main_call0_v0) (ix3 (t.cast N_1) r d) := by
  refine (mask_out_row (iblk1 V c 0 t) r d).trans ?_
  have hx : (fun d => iblk1 V c 0 t (ix3 0 r d)) = fun d => V c main_call0_v0 (ix3 (t.cast N_1) r d) :=
    funext fun d => iblk1_0_apply V c t r d
  rw [hx]
  rfl

/-- The first call's result array. -/
theorem draw_arr (c : Dev nD) : (dat0 V c).arrAt 2 cfg0.N = drawArr (V c main_call0_v0) (V c main_arg1) := by
  refine (dat0 V c).arrAt_eq_of_covers 2 _ (by decide +kernel) fun t hf y => ?_
  obtain ⟨r, d, rfl⟩ := block_ix y
  rw [emb0_2]
  blk_simp
  rw [after0_2]
  exact draw_block V c t r d

/-- The second call's result array. -/
theorem mask_arr (c : Dev nD) : (dat1 V c).arrAt 1 cfg1.N = maskArr (V c main_call0_v0) := by
  refine (dat1 V c).arrAt_eq_of_covers 1 _ (by decide +kernel) fun t hf y => ?_
  obtain ⟨r, d, rfl⟩ := block_ix y
  rw [emb1_1]
  blk_simp
  rw [after1_1]
  exact mask_block V c t r d

end Cert.Draw

end
-- ==== Proof.KernelRun.lean ====
/- The kernel's run, over the extended reals: its two results as functions of its arguments. -/
module

public import proofs.«01_k».proof.Proof.Arrays
public import Idealize.ShloMosaic.Lib.Tactic

@[expose] public section

set_option maxRecDepth 65536

noncomputable section

namespace Cert.Draw

section Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this statement
set_option backward.isDefEq.respectTransparency.types false in
/-- Every execution ends, faulting nowhere, with the two results at the last boundary's contents and the arguments as
    launched: the launch over the same segments as the frame, the results read beside the arguments. -/
theorem run_results : θ_run defs (onTc (τ := τ) (main (F := F))) ⟨m, fun _ => 0, ρ⟩ (fun r => ∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v0_0 (by decide)), h c _ (mem_uc main_v0_1 (by decide)),
       (h c _ (mem_uc main_arg0 (by decide))).trans (W4_main_arg0 m ρ c),
       (h c _ (mem_uc main_arg1 (by decide))).trans (W4_main_arg1 m ρ c)⟩)

/-- The reshaped logits, when the first call is entered. -/
theorem entry_logits (c : Dev nD) : V1 m ρ c main_call0_v0
    = shapeCast S16x8x32768 (m ((c.tc : Thread nD τ).loc main_arg0)) shapeCasts_S128x32768_S16x8x32768 := by
  show StableHlo.after hostOps0 (W0 m ρ c) (Proc.devRef .tc main_call0_v0) = _
  after_results
  rfl

/-- The first call leaves them. -/
theorem entry_logits' (c : Dev nD) : V2 m ρ c main_call0_v0
    = shapeCast S16x8x32768 (m ((c.tc : Thread nD τ).loc main_arg0)) shapeCasts_S128x32768_S16x8x32768 :=
  (W2_of m ρ c main_call0_v0 (by decide)).trans (entry_logits m ρ c)

/-- The uniforms are as launched when the first call is entered. -/
theorem entry_uniform (c : Dev nD) : V1 m ρ c main_arg1 = m ((c.tc : Thread nD τ).loc main_arg1) :=
  W1_args m ρ c main_arg1 (by decide)

/-- The first result is the first call's, reshaped. -/
theorem final_draw (c : Dev nD) : W4 m ρ c (Proc.devRef .tc main_v0_0)
    = shapeCast S128x32768 ((dat0 (V1 m ρ) c).arrAt 2 cfg0.N) shapeCasts_S16x8x32768_S128x32768 := by
  have h : W3 m ρ c (Proc.devRef .tc main_call0_v1) = (dat0 (V1 m ρ) c).arrAt 2 cfg0.N :=
    (W3_of m ρ c main_call0_v1 (by decide)).trans (W2_arr m ρ c 2)
  rw [← h]
  show StableHlo.after hostOps2 (W3 m ρ c) (Proc.devRef .tc main_v0_0) = _
  after_results
  rfl

/-- The second result is the second call's, reshaped. -/
theorem final_mask (c : Dev nD) : W4 m ρ c (Proc.devRef .tc main_v0_1)
    = shapeCast S128x32768 ((dat1 (V2 m ρ) c).arrAt 1 cfg1.N) shapeCasts_S16x8x32768_S128x32768 := by
  have h : W3 m ρ c (Proc.devRef .tc main_call0_v2) = (dat1 (V2 m ρ) c).arrAt 1 cfg1.N := W3_arr m ρ c 1
  rw [← h]
  show StableHlo.after hostOps2 (W3 m ρ c) (Proc.devRef .tc main_v0_1) = _
  after_results
  rfl

end Run

open Idealize.ShloMosaic hiding ix1 ix2 ix3 eq_ix1 eq_ix2 eq_ix3
open Idealize.ShloMosaic.TcCoe Idealize.ShloMosaic.ValueIdx Idealize.SL.Sem Cert.KernelIdeal Cert.KernelIdeal.Gen

/-- Row `8 b + r` of a matrix is row `r` of block `b` of its blocks. -/
theorem blocks_apply {α : Type} (x : S128x32768.Idx → α) (b : Fin 16) (r : Fin 8) (d : Fin 32768) :
    shapeCast S16x8x32768 x shapeCasts_S128x32768_S16x8x32768 (ix3 b r d) = x (ix2 (row b r) d) := by
  refine shapeCast_apply x _ _ _ ?_
  rw [Shape.rowMajor_val_two, Shape.rowMajor_val_three]
  show (8 * b.val + r.val) * 32768 + d.val = (b.val * 8 + r.val) * 32768 + d.val
  rw [Nat.mul_comm 8]

/-- And back: a row of the matrix is its block's. -/
theorem rows_apply {α : Type} (x : S16x8x32768.Idx → α) (b : Fin 16) (r : Fin 8) (d : Fin 32768) :
    shapeCast S128x32768 x shapeCasts_S16x8x32768_S128x32768 (ix2 (row b r) d) = x (ix3 b r d) := by
  refine shapeCast_apply x _ _ _ ?_
  rw [Shape.rowMajor_val_two, Shape.rowMajor_val_three]
  show (b.val * 8 + r.val) * 32768 + d.val = (8 * b.val + r.val) * 32768 + d.val
  rw [Nat.mul_comm 8]

/-- Every row lies in a block. -/
theorem exists_row (i : Fin 128) : ∃ b r, row b r = i :=
  ⟨⟨i.val / 8, by have := i.isLt; omega⟩, ⟨i.val % 8, by omega⟩, Fin.ext (by show 8 * (i.val / 8) + i.val % 8 = i.val; omega)⟩

variable (m : (ℓ : Loc nD τ sig) → Buf (Elt Idealize.ShloMosaic.Ideal) ℓ) (ρ : Dev nD → PrngReg)

/-- The samples at a row and a class, from the arguments. -/
theorem draw_result (c : Dev nD) (i : Fin 128) (d : Fin 32768) :
    (W4 m ρ c (Proc.devRef .tc main_v0_0) : Vec Ideal S128x32768 .f32) (ix2 i d)
      = drawRow (fun d => (m ((c.tc : Thread nD τ).loc main_arg0) : Vec Ideal S128x32768 .f32) (ix2 i d))
        (fun j d => (m ((c.tc : Thread nD τ).loc main_arg1) : Vec Ideal S128x10x32768 .f32) (ix3 i j d)) d := by
  obtain ⟨b, r, rfl⟩ := exists_row i
  refine (congrFun (final_draw m ρ c) _).trans ?_
  rw [rows_apply, draw_arr, entry_logits, entry_uniform]
  refine congrArg (fun l : Fin 32768 → EReal => drawRow l _ d) (funext fun d => ?_)
  exact blocks_apply _ b r d

/-- The mask at a row and a class, from the logits. -/
theorem mask_result (c : Dev nD) (i : Fin 128) (d : Fin 32768) :
    (W4 m ρ c (Proc.devRef .tc main_v0_1) : Vec Ideal S128x32768 .f32) (ix2 i d)
      = maskRow (fun d => (m ((c.tc : Thread nD τ).loc main_arg0) : Vec Ideal S128x32768 .f32) (ix2 i d)) d := by
  obtain ⟨b, r, rfl⟩ := exists_row i
  refine (congrFun (final_mask m ρ c) _).trans ?_
  rw [rows_apply, mask_arr, entry_logits']
  refine congrArg (fun l : Fin 32768 → EReal => maskRow l d) (funext fun d => ?_)
  exact blocks_apply _ b r d

end Cert.Draw
-- ==== Proof.PreRead.lean ====
/- What the precondition says of the two arguments, over the extended reals. -/
module

public import proofs.«01_k».proof.Pre_drawn
public import proofs.«01_k».proof.Proof.DrawMath
public import Idealize.ShloMosaic.Lib.ReduceAll
public import Idealize.ShloMosaic.Lib.ValueIdx

@[expose] public section

set_option maxRecDepth 65536

noncomputable section

namespace Cert.Draw.Pre

open Idealize.ShloMosaic Idealize.ShloMosaic.ValueIdx Idealize.SL.Sem Cert.Pre_drawn Cert.Pre_drawn.Facts

/-- The shape relations the precondition states hold. -/
theorem facts : Cert.Pre_drawn.Facts where
  bcast_S_S128x10x32768 := by decide
  bcast_S_S128x32768 := by decide
  bcast_S128x32768_S128x1x32768_0_2 := by decide
  bcast_S128x1x32768_S128x10x32768_0_1_2 := by decide
  reducesTo_S128x32768_S_d0_1 := by decide
  h_S_ := by decide
  reducesTo_S128x10x32768_S_d0_1_2 := by decide
  reducesTo_S128x10x32768_S128x10_d2 := by decide
  reducesTo_S128x10_S_d0_1 := by decide

instance : Std.Commutative (IntOp.ori : BitVec 1 → BitVec 1 → BitVec 1) := ⟨by decide⟩
instance : Std.Associative (IntOp.ori : BitVec 1 → BitVec 1 → BitVec 1) := ⟨by decide⟩

/-- A fold by `or` from false that came out true met a true. -/
theorem exists_of_fold_ori {ι : Type} [DecidableEq ι] (s : Finset ι) (f : ι → BitVec 1) :
    s.fold IntOp.ori 0#1 f = 1#1 → ∃ i, f i = 1#1 := by
  induction s using Finset.induction_on with
  | empty => intro h; rw [Finset.fold_empty] at h; exact absurd h (by decide)
  | insert a s ha ih =>
    intro h
    rw [Finset.fold_insert ha] at h
    rcases IntOp.ori_eq_one.1 h with h | h
    · exact ⟨a, h⟩
    · exact ih h

/-- A decision's bit is set exactly when it holds. -/
theorem bit_iff (p : Prop) [Decidable p] : BitVec.ofBool (decide p) = 1#1 ↔ p := by
  by_cases h : p <;> simp [h]

/-- A comparison's bit is set exactly when its order holds. -/
theorem bit_le (x y : EReal) : Ideal.cmp .ole x y = 1#1 ↔ x ≤ y := bit_iff _
/-- The same of less. -/
theorem bit_lt (x y : EReal) : Ideal.cmp .olt x y = 1#1 ↔ x < y := bit_iff _
/-- The same of greater. -/
theorem bit_gt (x y : EReal) : Ideal.cmp .ogt x y = 1#1 ↔ y < x := bit_iff _

variable [Cert.Pre_drawn.Facts]

instance : Subsingleton S_.Idx := ⟨fun a b => funext fun i => i.elim0⟩

/-- The `or` along a draw's classes. -/
theorem reduce_live (x : S128x10x32768.Idx → BitVec 1) (init : S_.Idx → BitVec 1) (b : Fin 128) (k : Fin 10) :
    Host.reduce (IntOp.ori : BitVec 1 → BitVec 1 → BitVec 1) x init reducesTo_S128x10x32768_S128x10_d2 h_S_ (ix2 b k)
      = (Finset.univ : Finset (Fin 32768)).fold IntOp.ori (init (Shape.Idx.first h_S_)) (fun d => x (ix3 b k d)) := by
  have h : S128x10x32768.Reduces [2] S128x10 := by decide
  refine (Host.reduce_eq_fold_single IntOp.ori x init reducesTo_S128x10x32768_S128x10_d2 h h_S_ (ix2 b k)).trans ?_
  refine congrArg (fun f : Fin 32768 → BitVec 1 => Finset.univ.fold IntOp.ori (init (Shape.Idx.first h_S_)) f) (funext fun d => congrArg x ?_)
  funext a
  match a with
  | ⟨0, _⟩ => rfl
  | ⟨1, _⟩ => rfl
  | ⟨2, _⟩ => rfl

/-- A vector of one class's flags laid over the draws. -/
theorem over_draws (x : IVec S128x32768 1) (b : Fin 128) (k : Fin 10) (d : Fin 32768) :
    broadcastInDim S128x10x32768 ![0, 1, 2] bcast_S128x1x32768_S128x10x32768_0_1_2
      (broadcastInDim S128x1x32768 ![0, 2] bcast_S128x32768_S128x1x32768_0_2 x) (ix3 b k d) = x (ix2 b d) := by
  refine congrArg x (funext fun a => ?_)
  match a with
  | ⟨0, _⟩ => rfl
  | ⟨1, _⟩ => rfl

/-- The precondition, read: the logits are at most 40, the uniforms below 1, and each draw has a class of positive
    uniform whose logit is not minus infinity. -/
theorem read (x0 : FVec Ideal S128x32768 .f32) (x1 : FVec Ideal S128x10x32768 .f32)
    (h : Cert.Pre_drawn.fn (F := Ideal) x0 x1 = fun _ => 1#1) :
    (∀ b d, x0 (ix2 b d) ≤ ((40 : ℝ) : EReal)) ∧ (∀ b k d, x1 (ix3 b k d) < ((1 : ℝ) : EReal))
      ∧ ∀ b k, ∃ d, 0 < x1 (ix3 b k d) ∧ ⊥ < x0 (ix2 b d) := by
  have e := congrFun h (Shape.Idx.first h_S_)
  obtain ⟨e12, e3⟩ := IntOp.andi_eq_one.1 e
  obtain ⟨e1, e2⟩ := IntOp.andi_eq_one.1 e12
  refine ⟨fun b d => ?_, fun b k d => ?_, fun b k => ?_⟩
  · have := (bit_le _ _).1 (Host.reduce_andi_all _ _ _ _ _ e1 (ix2 b d))
    rw [← bits_forty]
    exact this
  · have := (bit_lt _ _).1 (Host.reduce_andi_all _ _ _ _ _ e2 (ix3 b k d))
    rw [← bits_one]
    exact this
  · have e4 := Host.reduce_andi_all _ _ _ _ _ e3 (ix2 b k)
    obtain ⟨d, hd⟩ := exists_of_fold_ori _ _ ((reduce_live _ _ b k).symm.trans e4)
    obtain ⟨hu, hx⟩ := IntOp.andi_eq_one.1 hd
    rw [over_draws] at hx
    refine ⟨d, ?_, ?_⟩
    · have := (bit_gt _ _).1 hu
      rw [← bits_zero]
      exact this
    · have := (bit_gt _ _).1 hx
      rw [← bits_bot]
      exact this

end Cert.Draw.Pre
-- ==== Proof.RefRead.lean ====
/- The reference's two results read at an index, over the extended reals. -/
module

public import proofs.«01_k».proof.Proof.Gen.ReferenceIdeal.Read
public import proofs.«01_k».proof.Proof.DrawMath
public import proofs.«01_k».proof.Proof.TopMath
public import Idealize.ShloMosaic.Lib.ValueIdx

@[expose] public section

set_option maxRecDepth 65536

noncomputable section

namespace Cert.Draw.Ref

open Idealize.ShloMosaic Idealize.ShloMosaic.ValueIdx Idealize.SL.Sem Cert.ReferenceIdeal Cert.ReferenceIdeal.Gen Cert.ReferenceIdeal.Read

/-- The maximum along a draw's classes. -/
theorem reduce_classes (x : S128x10x32768.Idx → EReal) (init : S_.Idx → EReal) (b : Fin 128) (k : Fin 10) :
    Host.reduce (max : EReal → EReal → EReal) x init reducesTo_S128x10x32768_S128x10_d2 h_S_ (ix2 b k)
      = (Finset.univ : Finset (Fin 32768)).fold max (init (Shape.Idx.first h_S_)) (fun d => x (ix3 b k d)) := by
  have h : S128x10x32768.Reduces [2] S128x10 := by decide
  refine (Host.reduce_eq_fold_single max x init reducesTo_S128x10x32768_S128x10_d2 h h_S_ (ix2 b k)).trans ?_
  refine congrArg (fun f : Fin 32768 → EReal => Finset.univ.fold max (init (Shape.Idx.first h_S_)) f) (funext fun d => congrArg x ?_)
  funext a
  match a with
  | ⟨0, _⟩ => rfl
  | ⟨1, _⟩ => rfl
  | ⟨2, _⟩ => rfl

/-- The maximum along the draws. -/
theorem reduce_draws (x : S128x10x32768.Idx → EReal) (init : S_.Idx → EReal) (b : Fin 128) (d : Fin 32768) :
    Host.reduce (max : EReal → EReal → EReal) x init reducesTo_S128x10x32768_S128x32768_d1 h_S_ (ix2 b d)
      = (Finset.univ : Finset (Fin 10)).fold max (init (Shape.Idx.first h_S_)) (fun k => x (ix3 b k d)) := by
  have h : S128x10x32768.Reduces [1] S128x32768 := by decide
  refine (Host.reduce_eq_fold_single max x init reducesTo_S128x10x32768_S128x32768_d1 h h_S_ (ix2 b d)).trans ?_
  refine congrArg (fun f : Fin 10 → EReal => Finset.univ.fold max (init (Shape.Idx.first h_S_)) f) (funext fun k => congrArg x ?_)
  funext a
  match a with
  | ⟨0, _⟩ => rfl
  | ⟨1, _⟩ => rfl
  | ⟨2, _⟩ => rfl

variable (x0 : (⟨S128x32768, .f32⟩ : BufTy).Contents (Elt Ideal)) (x1 : (⟨S128x10x32768, .f32⟩ : BufTy).Contents (Elt Ideal))

/-- The perturbed logits over the temperature. -/
theorem score_apply (b : Fin 128) (k : Fin 10) (d : Fin 32768) :
    val_main_v8 (F := Ideal) x0 x1 (ix3 b k d) = score (x0 (ix2 b d)) (x1 (ix3 b k d)) := by
  have h0 : val_main_v5 (F := Ideal) x0 (ix3 b k d) = x0 (ix2 b d) := by
    rw [val_main_v5_apply, val_main_v0_apply]
    refine congrArg x0 (funext fun a => ?_)
    match a with
    | ⟨0, _⟩ => rfl
    | ⟨1, _⟩ => rfl
  have h1 : val_main_v7 (F := Ideal) (ix3 b k d) = ((1 / 2 : ℝ) : EReal) := by
    rw [val_main_v7_apply]
    exact bits_half
  rw [val_main_v8_apply, val_main_v6_apply, h0, h1]
  rfl

/-- The greatest score of a draw. -/
def best (l : Fin 32768 → EReal) (u : Fin 10 → Fin 32768 → EReal) (k : Fin 10) : EReal :=
  (Finset.univ : Finset (Fin 32768)).fold max ⊥ fun d => score (l d) (u k d)

/-- It is what the softmax subtracts. -/
theorem best_apply (b : Fin 128) (k : Fin 10) (d : Fin 32768) :
    val_main_v13 (F := Ideal) x0 x1 (ix3 b k d) = best (fun d => x0 (ix2 b d)) (fun k d => x1 (ix3 b k d)) k := by
  have h9 : val_main_v9 (F := Ideal) x0 x1 (ix2 b k) = best (fun d => x0 (ix2 b d)) (fun k d => x1 (ix3 b k d)) k := by
    refine (reduce_classes (val_main_v8 (F := Ideal) x0 x1) (val_main_cst_0 (F := Ideal)) b k).trans ?_
    rw [show val_main_cst_0 (F := Ideal) (Shape.Idx.first h_S_) = (⊥ : EReal) from bits_bot]
    exact congrArg (fun f : Fin 32768 → EReal => Finset.univ.fold max (⊥ : EReal) f) (funext fun d => score_apply x0 x1 b k d)
  have h10 : val_main_v10 (F := Ideal) (ix2 b k) = (⊥ : EReal) := by
    rw [val_main_v10_apply]
    exact bits_bot
  have hi : idx_main_v12 (idx_main_v13 (ix3 b k d)) = ix2 b k := by
    funext a
    match a with
    | ⟨0, _⟩ => rfl
    | ⟨1, _⟩ => rfl
  rw [val_main_v13_apply, val_main_v12_apply, hi, val_main_v11_apply, h9, h10]
  exact max_eq_right bot_le

/-- A class's term of the softmax. -/
theorem term_apply (b : Fin 128) (k : Fin 10) (d : Fin 32768) :
    val_main_v15 (F := Ideal) x0 x1 (ix3 b k d)
      = Ideal.exp (score (x0 (ix2 b d)) (x1 (ix3 b k d)) - best (fun d => x0 (ix2 b d)) (fun k d => x1 (ix3 b k d)) k) := by
  rw [val_main_v15_apply, val_main_v14_apply, score_apply, best_apply]
  rfl

/-- The softmax's denominator. -/
theorem denom_apply (b : Fin 128) (k : Fin 10) (d : Fin 32768) :
    val_main_v18 (F := Ideal) x0 x1 (ix3 b k d)
      = 0 + ∑ d' : Fin 32768, Ideal.exp (score (x0 (ix2 b d')) (x1 (ix3 b k d'))
        - best (fun d => x0 (ix2 b d)) (fun k d => x1 (ix3 b k d)) k) := by
  have hi : idx_main_v17 (idx_main_v18 (ix3 b k d)) = ix2 b k := by
    funext a
    match a with
    | ⟨0, _⟩ => rfl
    | ⟨1, _⟩ => rfl
  rw [val_main_v18_apply, val_main_v17_apply, hi, val_main_v16_apply]
  refine congrArg₂ (fun a b : EReal => a + b) bits_zero (Finset.sum_congr rfl fun d' _ => ?_)
  have hj : idx_main_v16 (ix2 b k) d' = ix3 b k d' := by
    funext a
    match a with
    | ⟨0, _⟩ => rfl
    | ⟨1, _⟩ => rfl
    | ⟨2, _⟩ => rfl
  rw [hj, term_apply]

/-- The reference's samples. -/
theorem draw_apply (b : Fin 128) (d : Fin 32768) :
    val_main_v20 (F := Ideal) x0 x1 (ix2 b d)
      = (Finset.univ : Finset (Fin 10)).fold max ⊥ (fun k =>
        Ideal.div (Ideal.exp (score (x0 (ix2 b d)) (x1 (ix3 b k d)) - best (fun d => x0 (ix2 b d)) (fun k d => x1 (ix3 b k d)) k))
          (0 + ∑ d' : Fin 32768, Ideal.exp (score (x0 (ix2 b d')) (x1 (ix3 b k d'))
            - best (fun d => x0 (ix2 b d)) (fun k d => x1 (ix3 b k d)) k))) := by
  refine (reduce_draws (val_main_v19 (F := Ideal) x0 x1) (val_main_cst_3 (F := Ideal)) b d).trans ?_
  rw [show val_main_cst_3 (F := Ideal) (Shape.Idx.first h_S_) = (⊥ : EReal) from bits_bot]
  refine congrArg (fun f : Fin 10 → EReal => Finset.univ.fold max (⊥ : EReal) f) (funext fun k => ?_)
  rw [val_main_v19_apply, term_apply, denom_apply]
  rfl

/-- The tenth of a row's sorted entries. -/
theorem tenth_apply (b : Fin 128) : Tenth (fun d : Fin 32768 => x0 (ix2 b d)) (val_main_values (F := Ideal) x0 (ix2 b 9)) := by
  let R : Fin 32768 → Fin 32768 → Bool := fun k k' =>
    Ideal.cmp .ogt (x0 ((ix2 b (9 : Fin 32768) : S128x32768.Idx).along 1 k)) (x0 ((ix2 b (9 : Fin 32768) : S128x32768.Idx).along 1 k')) == 1#1
  have hal : ∀ k : Fin 32768, (ix2 b (9 : Fin 32768) : S128x32768.Idx).along 1 k = ix2 b k := fun k => by
    funext a
    match a with
    | ⟨0, _⟩ => rfl
    | ⟨1, _⟩ => rfl
  have hR : ∀ k k', R k k' = decide (x0 (ix2 b k') < x0 (ix2 b k)) := fun k k' => by
    show (Ideal.cmp .ogt (x0 ((ix2 b (9 : Fin 32768) : S128x32768.Idx).along 1 k)) (x0 ((ix2 b (9 : Fin 32768) : S128x32768.Idx).along 1 k')) == 1#1) = _
    rw [hal, hal]
    show (BitVec.ofBool (decide (x0 (ix2 b k') < x0 (ix2 b k))) == 1#1) = _
    by_cases h : x0 (ix2 b k') < x0 (ix2 b k) <;> simp [h]
  have hv : val_main_values (F := Ideal) x0 (ix2 b 9) = x0 (ix2 b (sortedFrom R 9)) := by
    rw [← hal (sortedFrom R 9)]
    have hsort : val_main_values (F := Ideal) x0 = extractStridedSlice S128x10 (fun _ => 0) (fun j : S128x32768.Idx =>
        x0 (j.along 1 (sortedFrom (fun k k' => Ideal.cmp .ogt (x0 (j.along 1 k)) (x0 (j.along 1 k')) == 1#1) (j 1))))
        sliceFits_S128x32768_S128x10 := rfl
    rw [hsort]
    exact extractStridedSlice_apply _ _ sliceFits_S128x32768_S128x10 (ix2 b (9 : Fin 10)) (ix2 b (9 : Fin 32768)) fun a => by
      match a with
      | ⟨0, _⟩ => exact (Nat.zero_add _).symm
      | ⟨1, _⟩ => rfl
  rw [hv]
  refine tenth_of_sort (fun d => x0 (ix2 b d)) (sortedFrom R) ⟨sortedFrom_injective R, sortedFrom_surjective R⟩ (fun i j hij => ?_) 9 rfl
  have := sortedFrom_noInversion R R (fun a b h => ?_) (fun _ _ h => h) (fun a b c h1 h2 => ?_) i j hij
  · rw [hR, decide_eq_false_iff_not] at this
    exact not_lt.1 this
  · rw [hR, decide_eq_true_iff] at h
    rw [hR, decide_eq_false_iff_not]
    exact not_lt.2 h.le
  · rw [hR, decide_eq_false_iff_not, not_lt] at h1 h2 ⊢
    exact h1.trans h2

/-- The reference's mask. -/
theorem mask_apply (b : Fin 128) (d : Fin 32768) :
    val_main_v26 (F := Ideal) x0 (ix2 b d)
      = if val_main_values (F := Ideal) x0 (ix2 b 9) ≤ x0 (ix2 b d) then (1 : EReal) else 0 := by
  have hi : idx_main_v21 (idx_main_v22 (idx_main_v23 (idx_main_v24 (ix2 b d)))) = ix2 b 9 := by
    funext a
    match a with
    | ⟨0, _⟩ => exact Fin.ext (Nat.div_one _)
    | ⟨1, _⟩ => rfl
  rw [val_main_v26_apply, val_main_v25_apply, val_main_v24_apply, val_main_v23_apply, val_main_v22_apply, val_main_v21_apply, hi]
  generalize val_main_values (F := Ideal) x0 (ix2 b 9) = t
  show ((((BitVec.ofBool (decide (t ≤ x0 (ix2 b d)))).toNat : ℝ)) : EReal) = _
  by_cases h : t ≤ x0 (ix2 b d) <;> simp [h]

end Cert.Draw.Ref

end
-- ==== Proof.Agree.lean ====
/- The kernel's two results are the reference's, wherever the precondition holds. -/
module

public import proofs.«01_k».proof.Proof.KernelRun
public import proofs.«01_k».proof.Proof.PreRead
public import proofs.«01_k».proof.Proof.RefRead

@[expose] public section

set_option maxRecDepth 65536

noncomputable section

namespace Cert.Draw

open Idealize.ShloMosaic hiding ix1 ix2 ix3 eq_ix1 eq_ix2 eq_ix3
open Idealize.ShloMosaic.TcCoe Idealize.ShloMosaic.ValueIdx Idealize.SL.Sem

/-- A row of the kernel's samples is a row of the reference's. -/
theorem draw_agree [Cert.Pre_drawn.Facts] (x0 : Vec Ideal Cert.ReferenceIdeal.S128x32768 .f32)
    (x1 : Vec Ideal Cert.ReferenceIdeal.S128x10x32768 .f32)
    (hpre : Cert.Pre_drawn.fn (F := Idealize.ShloMosaic.Ideal) x0 x1 = fun _ => 1#1) (i : Fin 128) (d : Fin 32768) :
    drawRow (fun d => x0 (ix2 i d)) (fun j d => x1 (ix3 i j d)) d
      = Cert.ReferenceIdeal.Read.val_main_v20 (F := Idealize.ShloMosaic.Ideal) x0 x1 (ix2 i d) := by
  obtain ⟨hl, hu, hlive⟩ := Pre.read x0 x1 hpre
  refine (draw_eq (fun d => x0 (ix2 i d)) (fun j d => x1 (ix3 i j d)) d (hl i) (hu i) (hlive i) _
    (Ref.best (fun d => x0 (ix2 i d)) (fun j d => x1 (ix3 i j d))) (fun _ => rfl) (fun _ => rfl)).trans ?_
  exact (Ref.draw_apply x0 x1 i d).symm

/-- A row of the kernel's mask is a row of the reference's, whatever the logits. -/
theorem mask_agree (x0 : Vec Ideal Cert.ReferenceIdeal.S128x32768 .f32) (i : Fin 128) (d : Fin 32768) :
    maskRow (fun d => x0 (ix2 i d)) d = Cert.ReferenceIdeal.Read.val_main_v26 (F := Idealize.ShloMosaic.Ideal) x0 (ix2 i d) := by
  rw [Ref.mask_apply]
  unfold maskRow
  rw [tenth_eq (Ref.tenth_apply x0 i)]

section Memory

open Cert.KernelIdeal Cert.KernelIdeal.Gen

variable [Cert.Pre_drawn.Facts] (m : (ℓ : Loc nD τ sig) → Buf (Elt Idealize.ShloMosaic.Ideal) ℓ) (ρ : Dev nD → PrngReg)

/-- The kernel's first result is the reference's over the same arguments. -/
theorem draw_whole (c : Dev nD)
    (hpre : Cert.Pre_drawn.fn (F := Idealize.ShloMosaic.Ideal) (m ((c.tc : Thread nD τ).loc main_arg0))
      (m ((c.tc : Thread nD τ).loc main_arg1)) = fun _ => 1#1) :
    (W4 m ρ c (Proc.devRef .tc main_v0_0) : Vec Ideal S128x32768 .f32)
      = Cert.ReferenceIdeal.Read.val_main_v20 (F := Idealize.ShloMosaic.Ideal) (m ((c.tc : Thread nD τ).loc main_arg0))
        (m ((c.tc : Thread nD τ).loc main_arg1)) := by
  funext i
  obtain ⟨a, d, rfl⟩ : ∃ (a : Fin 128) (d : Fin 32768), i = ix2 a d := ⟨i 0, i 1, eq_ix2 i⟩
  exact (draw_result m ρ c a d).trans (draw_agree _ _ hpre a d)

/-- The kernel's second result is the reference's over the same logits. -/
theorem mask_whole (c : Dev nD) :
    (W4 m ρ c (Proc.devRef .tc main_v0_1) : Vec Ideal S128x32768 .f32)
      = Cert.ReferenceIdeal.Read.val_main_v26 (F := Idealize.ShloMosaic.Ideal) (m ((c.tc : Thread nD τ).loc main_arg0)) := by
  funext i
  obtain ⟨a, d, rfl⟩ : ∃ (a : Fin 128) (d : Fin 32768), i = ix2 a d := ⟨i 0, i 1, eq_ix2 i⟩
  exact (mask_result m ρ c a d).trans (mask_agree _ a d)

end Memory

end Cert.Draw
-- ==== Proof.lean ====
/- The proof of the kernel's claims: frames of the three programs, the idealization, and the equality with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Lib.Quiescent
public import Idealize.ShloMosaic.Init

@[expose] public section

noncomputable section

namespace Cert.Proof

open Idealize.ShloMosaic Idealize.SL.Sem

/-- The reference runs, its arguments end unchanged, and it has no counter to leave raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0) :=
  (θ_run _ _ _).mono (fun r h => ⟨fun c => (h c).2.2, sem_eq_zero_of_no_sems rfl r.2⟩) (Cert.ReferenceIdeal.Value.run m g)

/-- The kernel's two results are the reference's over arguments that agree, wherever the precondition holds: both are the
    reference's terms over the kernel's arguments. -/
theorem agree [Cert.Pre_drawn.Facts] : Cert.algebraic_KernelIdeal_ReferenceIdeal_pre_drawn := by
  intro m g m' g' hpre hargs
  refine ⟨fun c => Cert.KernelIdeal.Gen.W4 m g c (Proc.devRef .tc Cert.KernelIdeal.main_v0_0),
    fun c => Cert.KernelIdeal.Gen.W4 m g c (Proc.devRef .tc Cert.KernelIdeal.main_v0_1), Cert.Draw.run_results m g, ?_⟩
  refine (θ_run _ _ _).mono (fun r h c => ⟨?_, ?_, (h c).2.2⟩) (Cert.ReferenceIdeal.Value.run m' g')
  · refine (h c).1.trans ?_
    rw [Cert.ReferenceIdeal.Read.val_main_v20_eq, (hargs c).1, (hargs c).2]
    exact (Cert.Draw.draw_whole m g c (hpre c)).symm
  · refine (h c).2.1.trans ?_
    rw [Cert.ReferenceIdeal.Read.val_main_v26_eq, (hargs c).1]
    exact (Cert.Draw.mask_whole m g c).symm

/-- Everything claimed: the three frames, the idealization, and the two results' equality with the reference's. -/
theorem claim : Cert.Claim :=
  ⟨Cert.Kernel.Gen.facts, Cert.KernelIdeal.Gen.facts, Cert.ReferenceIdeal.Gen.facts, Cert.Draw.Pre.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    @agree Cert.Draw.Pre.facts⟩

end Cert.Proof

end
